-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "self_mask" .f32 0xC80CE360#32 (((-100000) * (Real.log 2)⁻¹ : ℝ) : EReal)
  ∧ IdealRules.named_const.Statement Cert.KernelIdeal.κ "other_mask" .f32 0xCEABFB8F#32 (((-1000000000) * (Real.log 2)⁻¹ : ℝ) : EReal)
  ∧ IdealRules.named_const.Statement Cert.KernelIdeal.κ "inv_d" .f32 0x3BCCCCCD#32 ((1 / 160 : ℝ) : EReal)
  ∧ IdealRules.named_const.Statement Cert.KernelIdeal.κ "key_scale" .f32 0x3DE995B3#32 (((Real.sqrt 160)⁻¹ * (Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S12x10x11x36x8x128 : Shape := ⟨6, ![12, 10, 11, 36, 8, 128]⟩
abbrev S12x10x1x36x8x128 : Shape := ⟨6, ![12, 10, 1, 36, 8, 128]⟩
abbrev S12x10x36x8x128 : Shape := ⟨5, ![12, 10, 36, 8, 128]⟩
abbrev S12x10x36x1x128 : Shape := ⟨5, ![12, 10, 36, 1, 128]⟩
abbrev S12x10x36x128 : Shape := ⟨4, ![12, 10, 36, 128]⟩
abbrev S12x10x4608 : Shape := ⟨3, ![12, 10, 4608]⟩
abbrev S_ : Shape := ⟨0, ![]⟩
abbrev S12x10x1 : Shape := ⟨3, ![12, 10, 1]⟩
abbrev S12x10x4607 : Shape := ⟨3, ![12, 10, 4607]⟩
abbrev S4608 : Shape := ⟨1, ![4608]⟩
abbrev S1x1x4608 : Shape := ⟨3, ![1, 1, 4608]⟩
abbrev S12x10x36x5x128 : Shape := ⟨5, ![12, 10, 36, 5, 128]⟩
abbrev S12x10x5x36x8x128 : Shape := ⟨6, ![12, 10, 5, 36, 8, 128]⟩

class Facts : Prop where
  slices_S12x10x11x36x8x128_S12x10x1x36x8x128_0_0_10_0_0_0 : S12x10x11x36x8x128.Slices ![0, 0, 10, 0, 0, 0] S12x10x1x36x8x128
  shapeCasts_S12x10x1x36x8x128_S12x10x36x8x128 : S12x10x1x36x8x128.ShapeCasts S12x10x36x8x128
  slices_S12x10x36x8x128_S12x10x36x1x128_0_0_0_6_0 : S12x10x36x8x128.Slices ![0, 0, 0, 6, 0] S12x10x36x1x128
  shapeCasts_S12x10x36x1x128_S12x10x36x128 : S12x10x36x1x128.ShapeCasts S12x10x36x128
  shapeCasts_S12x10x36x128_S12x10x4608 : S12x10x36x128.ShapeCasts S12x10x4608
  bcast_S_S12x10x1 : S_.BroadcastsInDim S12x10x1 (![] : Fin 0 → Fin S12x10x1.rank)
  slices_S12x10x4608_S12x10x4607_0_0_0 : S12x10x4608.Slices ![0, 0, 0] S12x10x4607
  concatenates_S12x10x1_S12x10x4607_S12x10x4608_d2 : Shape.Concatenates [S12x10x1, S12x10x4607] S12x10x4608 2
  bcast_S4608_S1x1x4608_2 : S4608.BroadcastsInDim S1x1x4608 (![2] : Fin 1 → Fin S1x1x4608.rank)
  bcast_S1x1x4608_S12x10x4608_0_1_2 : S1x1x4608.BroadcastsInDim S12x10x4608 (![0, 1, 2] : Fin 3 → Fin S12x10x4608.rank)
  reducesTo_S12x10x4608_S_d0_1_2 : S12x10x4608.ReducesTo [0, 1, 2] S_
  h_S_ : 0 < S_.numel
  slices_S12x10x36x8x128_S12x10x36x5x128_0_0_0_0_0 : S12x10x36x8x128.Slices ![0, 0, 0, 0, 0] S12x10x36x5x128
  bcast_S_S12x10x36x5x128 : S_.BroadcastsInDim S12x10x36x5x128 (![] : Fin 0 → Fin S12x10x36x5x128.rank)
  reducesTo_S12x10x36x5x128_S_d0_1_2_3_4 : S12x10x36x5x128.ReducesTo [0, 1, 2, 3, 4] S_
  slices_S12x10x11x36x8x128_S12x10x5x36x8x128_0_0_0_0_0_0 : S12x10x11x36x8x128.Slices ![0, 0, 0, 0, 0, 0] S12x10x5x36x8x128
  bcast_S_S12x10x5x36x8x128 : S_.BroadcastsInDim S12x10x5x36x8x128 (![] : Fin 0 → Fin S12x10x5x36x8x128.rank)
  reducesTo_S12x10x5x36x8x128_S_d0_1_2_3_4_5 : S12x10x5x36x8x128.ReducesTo [0, 1, 2, 3, 4, 5] S_

variable [Facts]

def fn_part2 {F : FTy → Type} [FloatOps F] (main_v14 : IVec S_ 1) (main_v20 : IVec S_ 1) (main_v21 : IVec S12x10x5x36x8x128 32) (main_v26 : IVec S_ 1) (main_v31 : IVec S_ 1) (main_v33 : IVec S12x10x5x36x8x128 32) (main_v34 : IVec S12x10x5x36x8x128 32) : IVec S_ 1 :=
  let main_v35 : IVec S12x10x5x36x8x128 1 := cmpi .ne main_v33 main_v34
  let main_c_12 : IVec S_ 1 := constantI S_ 1 1#1
  let main_v36 : IVec S_ 1 := (fun x v => Host.reduce IntOp.andi x v reducesTo_S12x10x5x36x8x128_S_d0_1_2_3_4_5 h_S_) main_v35 main_c_12
  let main_c_13 : IVec S_ 32 := constantI S_ 32 2130706432#32
  let main_v37 : IVec S12x10x5x36x8x128 32 := broadcastInDim S12x10x5x36x8x128 ![] bcast_S_S12x10x5x36x8x128 main_c_13
  let main_v38 : IVec S12x10x5x36x8x128 32 := andi main_v21 main_v37
  let main_c_14 : IVec S_ 32 := constantI S_ 32 2130706432#32
  let main_v39 : IVec S12x10x5x36x8x128 32 := broadcastInDim S12x10x5x36x8x128 ![] bcast_S_S12x10x5x36x8x128 main_c_14
  let main_v40 : IVec S12x10x5x36x8x128 1 := cmpi .ne main_v38 main_v39
  let main_c_15 : IVec S_ 1 := constantI S_ 1 1#1
  let main_v41 : IVec S_ 1 := (fun x v => Host.reduce IntOp.andi x v reducesTo_S12x10x5x36x8x128_S_d0_1_2_3_4_5 h_S_) main_v40 main_c_15
  let main_v42 : IVec S_ 1 := andi main_v14 main_v20
  let main_v43 : IVec S_ 1 := andi main_v42 main_v26
  let main_v44 : IVec S_ 1 := andi main_v43 main_v31
  let main_v45 : IVec S_ 1 := andi main_v44 main_v36
  let main_v46 : IVec S_ 1 := andi main_v45 main_v41
  main_v46

def fn_part1 {F : FTy → Type} [FloatOps F] (main_arg0 : IVec S12x10x11x36x8x128 32) (main_v14 : IVec S_ 1) (main_v19 : IVec S12x10x36x5x128 1) : IVec S_ 1 :=
  let main_c_3 : IVec S_ 1 := constantI S_ 1 1#1
  let main_v20 : IVec S_ 1 := (fun x v => Host.reduce IntOp.andi x v reducesTo_S12x10x36x5x128_S_d0_1_2_3_4 h_S_) main_v19 main_c_3
  let main_v21 : IVec S12x10x5x36x8x128 32 := (extractStridedSlice S12x10x5x36x8x128 ![0, 0, 0, 0, 0, 0] · slices_S12x10x11x36x8x128_S12x10x5x36x8x128_0_0_0_0_0_0) main_arg0
  let main_c_4 : IVec S_ 32 := constantI S_ 32 127#32
  let main_v22 : IVec S12x10x5x36x8x128 32 := broadcastInDim S12x10x5x36x8x128 ![] bcast_S_S12x10x5x36x8x128 main_c_4
  let main_v23 : IVec S12x10x5x36x8x128 32 := andi main_v21 main_v22
  let main_c_5 : IVec S_ 32 := constantI S_ 32 127#32
  let main_v24 : IVec S12x10x5x36x8x128 32 := broadcastInDim S12x10x5x36x8x128 ![] bcast_S_S12x10x5x36x8x128 main_c_5
  let main_v25 : IVec S12x10x5x36x8x128 1 := cmpi .ne main_v23 main_v24
  let main_c_6 : IVec S_ 1 := constantI S_ 1 1#1
  let main_v26 : IVec S_ 1 := (fun x v => Host.reduce IntOp.andi x v reducesTo_S12x10x5x36x8x128_S_d0_1_2_3_4_5 h_S_) main_v25 main_c_6
  let main_c_7 : IVec S_ 32 := constantI S_ 32 32512#32
  let main_v27 : IVec S12x10x5x36x8x128 32 := broadcastInDim S12x10x5x36x8x128 ![] bcast_S_S12x10x5x36x8x128 main_c_7
  let main_v28 : IVec S12x10x5x36x8x128 32 := andi main_v21 main_v27
  let main_c_8 : IVec S_ 32 := constantI S_ 32 32512#32
  let main_v29 : IVec S12x10x5x36x8x128 32 := broadcastInDim S12x10x5x36x8x128 ![] bcast_S_S12x10x5x36x8x128 main_c_8
  let main_v30 : IVec S12x10x5x36x8x128 1 := cmpi .ne main_v28 main_v29
  let main_c_9 : IVec S_ 1 := constantI S_ 1 1#1
  let main_v31 : IVec S_ 1 := (fun x v => Host.reduce IntOp.andi x v reducesTo_S12x10x5x36x8x128_S_d0_1_2_3_4_5 h_S_) main_v30 main_c_9
  let main_c_10 : IVec S_ 32 := constantI S_ 32 8323072#32
  let main_v32 : IVec S12x10x5x36x8x128 32 := broadcastInDim S12x10x5x36x8x128 ![] bcast_S_S12x10x5x36x8x128 main_c_10
  let main_v33 : IVec S12x10x5x36x8x128 32 := andi main_v21 main_v32
  let main_c_11 : IVec S_ 32 := constantI S_ 32 8323072#32
  let main_v34 : IVec S12x10x5x36x8x128 32 := broadcastInDim S12x10x5x36x8x128 ![] bcast_S_S12x10x5x36x8x128 main_c_11
  fn_part2 (F := F) main_v14 main_v20 main_v21 main_v26 main_v31 main_v33 main_v34

def fn {F : FTy → Type} [FloatOps F] (main_arg0 : IVec S12x10x11x36x8x128 32) : IVec S_ 1 :=
  let main_v0 : IVec S12x10x1x36x8x128 32 := (extractStridedSlice S12x10x1x36x8x128 ![0, 0, 10, 0, 0, 0] · slices_S12x10x11x36x8x128_S12x10x1x36x8x128_0_0_10_0_0_0) main_arg0
  let main_v1 : IVec S12x10x36x8x128 32 := shapeCast S12x10x36x8x128 main_v0 shapeCasts_S12x10x1x36x8x128_S12x10x36x8x128
  let main_v2 : IVec S12x10x36x1x128 32 := (extractStridedSlice S12x10x36x1x128 ![0, 0, 0, 6, 0] · slices_S12x10x36x8x128_S12x10x36x1x128_0_0_0_6_0) main_v1
  let main_v3 : IVec S12x10x36x128 32 := shapeCast S12x10x36x128 main_v2 shapeCasts_S12x10x36x1x128_S12x10x36x128
  let main_v4 : IVec S12x10x4608 32 := shapeCast S12x10x4608 main_v3 shapeCasts_S12x10x36x128_S12x10x4608
  let main_c : IVec S_ 32 := constantI S_ 32 0#32
  let main_v5 : IVec S12x10x1 32 := broadcastInDim S12x10x1 ![] bcast_S_S12x10x1 main_c
  let main_v6 : IVec S12x10x4607 32 := (extractStridedSlice S12x10x4607 ![0, 0, 0] · slices_S12x10x4608_S12x10x4607_0_0_0) main_v4
  let main_v7 : IVec S12x10x4608 32 := (fun a b => concatenate S12x10x4608 2 [⟨S12x10x1, a⟩, ⟨S12x10x4607, b⟩] concatenates_S12x10x1_S12x10x4607_S12x10x4608_d2) main_v5 main_v6
  let main_v8 : IVec S4608 32 := iotaInDim S4608 32 0
  let main_v9 : IVec S12x10x4608 1 := cmpi .eq main_v4 main_v7
  let main_v10 : IVec S1x1x4608 32 := broadcastInDim S1x1x4608 ![2] bcast_S4608_S1x1x4608_2 main_v8
  let main_v11 : IVec S12x10x4608 32 := broadcastInDim S12x10x4608 ![0, 1, 2] bcast_S1x1x4608_S12x10x4608_0_1_2 main_v10
  let main_v12 : IVec S12x10x4608 1 := cmpi .eq main_v4 main_v11
  let main_v13 : IVec S12x10x4608 1 := ori main_v9 main_v12
  let main_c_0 : IVec S_ 1 := constantI S_ 1 1#1
  let main_v14 : IVec S_ 1 := (fun x v => Host.reduce IntOp.andi x v reducesTo_S12x10x4608_S_d0_1_2 h_S_) main_v13 main_c_0
  let main_v15 : IVec S12x10x36x5x128 32 := (extractStridedSlice S12x10x36x5x128 ![0, 0, 0, 0, 0] · slices_S12x10x36x8x128_S12x10x36x5x128_0_0_0_0_0) main_v1
  let main_c_1 : IVec S_ 32 := constantI S_ 32 2139095040#32
  let main_v16 : IVec S12x10x36x5x128 32 := broadcastInDim S12x10x36x5x128 ![] bcast_S_S12x10x36x5x128 main_c_1
  let main_v17 : IVec S12x10x36x5x128 32 := andi main_v15 main_v16
  let main_c_2 : IVec S_ 32 := constantI S_ 32 2139095040#32
  let main_v18 : IVec S12x10x36x5x128 32 := broadcastInDim S12x10x36x5x128 ![] bcast_S_S12x10x36x5x128 main_c_2
  let main_v19 : IVec S12x10x36x5x128 1 := cmpi .ne main_v17 main_v18
  fn_part1 (F := F) main_arg0 main_v14 main_v19
-- ==== Kernel.lean ====
abbrev S12x10x11x36x8x128 : Shape := ⟨6, ![12, 10, 11, 36, 8, 128]⟩
abbrev S12x10x10x36x16x128 : Shape := ⟨6, ![12, 10, 10, 36, 16, 128]⟩
abbrev S1x1x11x36x8x128 : Shape := ⟨6, ![1, 1, 11, 36, 8, 128]⟩
abbrev S1x1x10x36x16x128 : Shape := ⟨6, ![1, 1, 10, 36, 16, 128]⟩
abbrev S37x160x128 : Shape := ⟨3, ![37, 160, 128]⟩
abbrev S4736x176 : Shape := ⟨2, ![4736, 176]⟩
abbrev S64x128 : Shape := ⟨2, ![64, 128]⟩
abbrev S16x128 : Shape := ⟨2, ![16, 128]⟩
abbrev S160x128 : Shape := ⟨2, ![160, 128]⟩
abbrev S176x128 : Shape := ⟨2, ![176, 128]⟩
abbrev S1x1x1x1x8x128 : Shape := ⟨6, ![1, 1, 1, 1, 8, 128]⟩
abbrev S8x128 : Shape := ⟨2, ![8, 128]⟩
abbrev S32x128 : Shape := ⟨2, ![32, 128]⟩
abbrev S1x128 : Shape := ⟨2, ![1, 128]⟩
abbrev S4x8x128 : Shape := ⟨3, ![4, 8, 128]⟩
abbrev S128 : Shape := ⟨1, ![128]⟩
abbrev S128x176 : Shape := ⟨2, ![128, 176]⟩
abbrev S1x160x128 : Shape := ⟨3, ![1, 160, 128]⟩
abbrev S192x176 : Shape := ⟨2, ![192, 176]⟩
abbrev S176x256 : Shape := ⟨2, ![176, 256]⟩
abbrev S192x256 : Shape := ⟨2, ![192, 256]⟩
abbrev S192x128 : Shape := ⟨2, ![192, 128]⟩
abbrev S1x1x1x1x1x128 : Shape := ⟨6, ![1, 1, 1, 1, 1, 128]⟩
abbrev S256x128 : Shape := ⟨2, ![256, 128]⟩
abbrev S160x256 : Shape := ⟨2, ![160, 256]⟩
abbrev S1x1x1x1x16x128 : Shape := ⟨6, ![1, 1, 1, 1, 16, 128]⟩

abbrev nBuf : Space → Nat
  | .hbm => 2
  | .vmem => 7
  | .smem => 0
  | _ => 0

abbrev bufTy : (tb : Table) → Fin (tcTables nBuf tb) → BufTy
  | .hbm, ⟨0, _⟩ => ⟨S12x10x11x36x8x128, .i32⟩
  | .hbm, ⟨1, _⟩ => ⟨S12x10x10x36x16x128, .bf16⟩
  | .local _ .vmem, ⟨0, _⟩ => ⟨S1x1x11x36x8x128, .i32⟩
  | .local _ .vmem, ⟨1, _⟩ => ⟨S1x1x11x36x8x128, .i32⟩
  | .local _ .vmem, ⟨2, _⟩ => ⟨S1x1x10x36x16x128, .bf16⟩
  | .local _ .vmem, ⟨3, _⟩ => ⟨S1x1x10x36x16x128, .bf16⟩
  | .local _ .vmem, ⟨4, _⟩ => ⟨S37x160x128, .bf16⟩
  | .local _ .vmem, ⟨5, _⟩ => ⟨S4736x176, .bf16⟩
  | .local _ .vmem, ⟨6, _⟩ => ⟨S37x160x128, .bf16⟩
  | _, _ => ⟨S12x10x11x36x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 10], ![false, false]⟩

def k0_mult1 : BitVec 32 :=
  let c0_i32_72 : BitVec 32 := 0#32
  c0_i32_72
def k0_mult2 : BitVec 32 :=
  let c4608_i32 : BitVec 32 := 4608#32
  c4608_i32
@[reducible] def k0_t1_loop : Scf.Loop 32 :=
  let c0_i32_83 : BitVec 32 := 0#32
  let c35_i32 : BitVec 32 := 35#32
  let v172 : BitVec 32 := Scalar.addi c0_i32_83 c35_i32
  let c1_i32_84 : BitVec 32 := 1#32
  ⟨c0_i32_83, v172, c1_i32_84⟩
def k0_off1 (k0_t1 : Fin k0_t1_loop.trips) : Fin 6 → Nat :=
  let c0_90 : Index := 0#32
  let c0_91 : Index := 0#32
  let c10_92 : Index := 10#32
  let c0_i32_83 : BitVec 32 := 0#32
  let c1_i32_84 : BitVec 32 := 1#32
  let arg7 : BitVec 32 := Scf.iv c0_i32_83 c1_i32_84 k0_t1
  let v175 : Index := Scalar.indexCast arg7
  let c0_93 : Index := 0#32
  let c0_94 : Index := 0#32
  ![0, 0, 10, v175.toNat, 0, 0]
def k0_off2 (k0_t1 : Fin k0_t1_loop.trips) : Fin 6 → Nat :=
  let c0_96 : Index := 0#32
  let c0_97 : Index := 0#32
  let c0_98 : Index := 0#32
  let c0_i32_83 : BitVec 32 := 0#32
  let c1_i32_84 : BitVec 32 := 1#32
  let arg7 : BitVec 32 := Scf.iv c0_i32_83 c1_i32_84 k0_t1
  let v181 : Index := Scalar.indexCast arg7
  let c0_99 : Index := 0#32
  let c0_100 : Index := 0#32
  ![0, 0, 0, v181.toNat, 0, 0]
def k0_off3 (k0_t1 : Fin k0_t1_loop.trips) : Fin 6 → Nat :=
  let c0_102 : Index := 0#32
  let c0_103 : Index := 0#32
  let c1_104 : Index := 1#32
  let c0_i32_83 : BitVec 32 := 0#32
  let c1_i32_84 : BitVec 32 := 1#32
  let arg7 : BitVec 32 := Scf.iv c0_i32_83 c1_i32_84 k0_t1
  let v194 : Index := Scalar.indexCast arg7
  let c0_105 : Index := 0#32
  let c0_106 : Index := 0#32
  ![0, 0, 1, v194.toNat, 0, 0]
def k0_off4 (k0_t1 : Fin k0_t1_loop.trips) : Fin 6 → Nat :=
  let c0_108 : Index := 0#32
  let c0_109 : Index := 0#32
  let c2_110 : Index := 2#32
  let c0_i32_83 : BitVec 32 := 0#32
  let c1_i32_84 : BitVec 32 := 1#32
  let arg7 : BitVec 32 := Scf.iv c0_i32_83 c1_i32_84 k0_t1
  let v207 : Index := Scalar.indexCast arg7
  let c0_111 : Index := 0#32
  let c0_112 : Index := 0#32
  ![0, 0, 2, v207.toNat, 0, 0]
def k0_off5 (k0_t1 : Fin k0_t1_loop.trips) : Fin 6 → Nat :=
  let c0_114 : Index := 0#32
  let c0_115 : Index := 0#32
  let c3_116 : Index := 3#32
  let c0_i32_83 : BitVec 32 := 0#32
  let c1_i32_84 : BitVec 32 := 1#32
  let arg7 : BitVec 32 := Scf.iv c0_i32_83 c1_i32_84 k0_t1
  let v220 : Index := Scalar.indexCast arg7
  let c0_117 : Index := 0#32
  let c0_118 : Index := 0#32
  ![0, 0, 3, v220.toNat, 0, 0]
def k0_off6 (k0_t1 : Fin k0_t1_loop.trips) : Fin 6 → Nat :=
  let c0_120 : Index := 0#32
  let c0_121 : Index := 0#32
  let c4_122 : Index := 4#32
  let c0_i32_83 : BitVec 32 := 0#32
  let c1_i32_84 : BitVec 32 := 1#32
  let arg7 : BitVec 32 := Scf.iv c0_i32_83 c1_i32_84 k0_t1
  let v233 : Index := Scalar.indexCast arg7
  let c0_123 : Index := 0#32
  let c0_124 : Index := 0#32
  ![0, 0, 4, v233.toNat, 0, 0]
def k0_off7 (k0_t1 : Fin k0_t1_loop.trips) : Fin 6 → Nat :=
  let c0_134 : Index := 0#32
  let c0_135 : Index := 0#32
  let c5_136 : Index := 5#32
  let c0_i32_83 : BitVec 32 := 0#32
  let c1_i32_84 : BitVec 32 := 1#32
  let arg7 : BitVec 32 := Scf.iv c0_i32_83 c1_i32_84 k0_t1
  let v282 : Index := Scalar.indexCast arg7
  let c0_137 : Index := 0#32
  let c0_138 : Index := 0#32
  ![0, 0, 5, v282.toNat, 0, 0]
def k0_off8 (k0_t1 : Fin k0_t1_loop.trips) : Fin 6 → Nat :=
  let c0_139 : Index := 0#32
  let c0_140 : Index := 0#32
  let c6_141 : Index := 6#32
  let c0_i32_83 : BitVec 32 := 0#32
  let c1_i32_84 : BitVec 32 := 1#32
  let arg7 : BitVec 32 := Scf.iv c0_i32_83 c1_i32_84 k0_t1
  let v287 : Index := Scalar.indexCast arg7
  let c0_142 : Index := 0#32
  let c0_143 : Index := 0#32
  ![0, 0, 6, v287.toNat, 0, 0]
def k0_off9 (k0_t1 : Fin k0_t1_loop.trips) : Fin 6 → Nat :=
  let c0_144 : Index := 0#32
  let c0_145 : Index := 0#32
  let c7_146 : Index := 7#32
  let c0_i32_83 : BitVec 32 := 0#32
  let c1_i32_84 : BitVec 32 := 1#32
  let arg7 : BitVec 32 := Scf.iv c0_i32_83 c1_i32_84 k0_t1
  let v292 : Index := Scalar.indexCast arg7
  let c0_147 : Index := 0#32
  let c0_148 : Index := 0#32
  ![0, 0, 7, v292.toNat, 0, 0]
def k0_off10 (k0_t1 : Fin k0_t1_loop.trips) : Fin 6 → Nat :=
  let c0_149 : Index := 0#32
  let c0_150 : Index := 0#32
  let c8_151 : Index := 8#32
  let c0_i32_83 : BitVec 32 := 0#32
  let c1_i32_84 : BitVec 32 := 1#32
  let arg7 : BitVec 32 := Scf.iv c0_i32_83 c1_i32_84 k0_t1
  let v297 : Index := Scalar.indexCast arg7
  let c0_152 : Index := 0#32
  let c0_153 : Index := 0#32
  ![0, 0, 8, v297.toNat, 0, 0]
def k0_off11 (k0_t1 : Fin k0_t1_loop.trips) : Fin 6 → Nat :=
  let c0_154 : Index := 0#32
  let c0_155 : Index := 0#32
  let c9_156 : Index := 9#32
  let c0_i32_83 : BitVec 32 := 0#32
  let c1_i32_84 : BitVec 32 := 1#32
  let arg7 : BitVec 32 := Scf.iv c0_i32_83 c1_i32_84 k0_t1
  let v302 : Index := Scalar.indexCast arg7
  let c0_157 : Index := 0#32
  let c0_158 : Index := 0#32
  ![0, 0, 9, v302.toNat, 0, 0]
def k0_off12 (k0_t1 : Fin k0_t1_loop.trips) : Fin 3 → Nat :=
  let c0_i32_83 : BitVec 32 := 0#32
  let c1_i32_84 : BitVec 32 := 1#32
  let arg7 : BitVec 32 := Scf.iv c0_i32_83 c1_i32_84 k0_t1
  let c1_i32_89 : BitVec 32 := 1#32
  let v174 : BitVec 32 := Scalar.addi arg7 c1_i32_89
  let v311 : Index := Scalar.indexCast v174
  let c0_159 : Index := 0#32
  let c0_160 : Index := 0#32
  ![v311.toNat, 0, 0]
def k0_mult3 (k0_t1 : Fin k0_t1_loop.trips) : BitVec 32 :=
  let c0_i32_83 : BitVec 32 := 0#32
  let c1_i32_84 : BitVec 32 := 1#32
  let arg7 : BitVec 32 := Scf.iv c0_i32_83 c1_i32_84 k0_t1
  let c1_i32_89 : BitVec 32 := 1#32
  let v174 : BitVec 32 := Scalar.addi arg7 c1_i32_89
  let c128_i32 : BitVec 32 := 128#32
  let v315 : BitVec 32 := Scalar.muli v174 c128_i32
  v315
def k0_off13 (k0_t1 : Fin k0_t1_loop.trips) : Fin 2 → Nat :=
  let c0_i32_83 : BitVec 32 := 0#32
  let c1_i32_84 : BitVec 32 := 1#32
  let arg7 : BitVec 32 := Scf.iv c0_i32_83 c1_i32_84 k0_t1
  let c1_i32_89 : BitVec 32 := 1#32
  let v174 : BitVec 32 := Scalar.addi arg7 c1_i32_89
  let c128_i32 : BitVec 32 := 128#32
  let v315 : BitVec 32 := Scalar.muli v174 c128_i32
  let v316 : BitVec 32 := v315
  let v317 : Index := Scalar.indexCast v316
  let c0_161 : Index := 0#32
  ![v317.toNat, 0]
@[reducible] def k0_t2_loop : Scf.Loop 32 :=
  let c0_i32_86 : BitVec 32 := 0#32
  let c36_i32 : BitVec 32 := 36#32
  let v173 : BitVec 32 := Scalar.addi c0_i32_86 c36_i32
  let c1_i32_87 : BitVec 32 := 1#32
  ⟨c0_i32_86, v173, c1_i32_87⟩
def k0_mult4 (k0_t2 : Fin k0_t2_loop.trips) : BitVec 32 :=
  let c0_i32_86 : BitVec 32 := 0#32
  let c1_i32_87 : BitVec 32 := 1#32
  let arg7 : BitVec 32 := Scf.iv c0_i32_86 c1_i32_87 k0_t2
  let c128_i32 : BitVec 32 := 128#32
  let v174 : BitVec 32 := Scalar.muli arg7 c128_i32
  let c64_i32_89 : BitVec 32 := 64#32
  let v175 : BitVec 32 := Scalar.addi v174 c64_i32_89
  v175
def k0_off14 (k0_t2 : Fin k0_t2_loop.trips) : Fin 2 → Nat :=
  let c0_i32_86 : BitVec 32 := 0#32
  let c1_i32_87 : BitVec 32 := 1#32
  let arg7 : BitVec 32 := Scf.iv c0_i32_86 c1_i32_87 k0_t2
  let c128_i32 : BitVec 32 := 128#32
  let v174 : BitVec 32 := Scalar.muli arg7 c128_i32
  let c64_i32_89 : BitVec 32 := 64#32
  let v175 : BitVec 32 := Scalar.addi v174 c64_i32_89
  let v176 : BitVec 32 := v175
  let v177 : Index := Scalar.indexCast v176
  let c0_90 : Index := 0#32
  ![v177.toNat, 0]
def k0_off15 (k0_t2 : Fin k0_t2_loop.trips) : Fin 3 → Nat :=
  let c0_i32_86 : BitVec 32 := 0#32
  let c1_i32_87 : BitVec 32 := 1#32
  let arg7 : BitVec 32 := Scf.iv c0_i32_86 c1_i32_87 k0_t2
  let c1_i32_91 : BitVec 32 := 1#32
  let v179 : BitVec 32 := Scalar.addi arg7 c1_i32_91
  let v180 : Index := Scalar.indexCast v179
  let c0_92 : Index := 0#32
  let c0_93 : Index := 0#32
  ![v180.toNat, 0, 0]
def k0_off16 (k0_t2 : Fin k0_t2_loop.trips) : Fin 6 → Nat :=
  let c0_96 : Index := 0#32
  let c0_97 : Index := 0#32
  let c10_98 : Index := 10#32
  let c0_i32_86 : BitVec 32 := 0#32
  let c1_i32_87 : BitVec 32 := 1#32
  let arg7 : BitVec 32 := Scf.iv c0_i32_86 c1_i32_87 k0_t2
  let v193 : Index := Scalar.indexCast arg7
  let c6_99 : Index := 6#32
  let c0_100 : Index := 0#32
  ![0, 0, 10, v193.toNat, 6, 0]
def k0_off17 (k0_t2 : Fin k0_t2_loop.trips) : Fin 3 → Nat :=
  let c0_i32_86 : BitVec 32 := 0#32
  let c1_i32_87 : BitVec 32 := 1#32
  let arg7 : BitVec 32 := Scf.iv c0_i32_86 c1_i32_87 k0_t2
  let v245 : Index := Scalar.indexCast arg7
  let c0_112 : Index := 0#32
  let c0_113 : Index := 0#32
  ![v245.toNat, 0, 0]
def k0_off18 (k0_t2 : Fin k0_t2_loop.trips) : Fin 6 → Nat :=
  let c0_118 : Index := 0#32
  let c0_119 : Index := 0#32
  let c0_120 : Index := 0#32
  let c0_i32_86 : BitVec 32 := 0#32
  let c1_i32_87 : BitVec 32 := 1#32
  let arg7 : BitVec 32 := Scf.iv c0_i32_86 c1_i32_87 k0_t2
  let v256 : Index := Scalar.indexCast arg7
  let c0_121 : Index := 0#32
  let c0_122 : Index := 0#32
  ![0, 0, 0, v256.toNat, 0, 0]
def k0_off19 (k0_t2 : Fin k0_t2_loop.trips) : Fin 6 → Nat :=
  let c0_123 : Index := 0#32
  let c0_124 : Index := 0#32
  let c1_125 : Index := 1#32
  let c0_i32_86 : BitVec 32 := 0#32
  let c1_i32_87 : BitVec 32 := 1#32
  let arg7 : BitVec 32 := Scf.iv c0_i32_86 c1_i32_87 k0_t2
  let v261 : Index := Scalar.indexCast arg7
  let c0_126 : Index := 0#32
  let c0_127 : Index := 0#32
  ![0, 0, 1, v261.toNat, 0, 0]
def k0_off20 (k0_t2 : Fin k0_t2_loop.trips) : Fin 6 → Nat :=
  let c0_128 : Index := 0#32
  let c0_129 : Index := 0#32
  let c2_130 : Index := 2#32
  let c0_i32_86 : BitVec 32 := 0#32
  let c1_i32_87 : BitVec 32 := 1#32
  let arg7 : BitVec 32 := Scf.iv c0_i32_86 c1_i32_87 k0_t2
  let v266 : Index := Scalar.indexCast arg7
  let c0_131 : Index := 0#32
  let c0_132 : Index := 0#32
  ![0, 0, 2, v266.toNat, 0, 0]
def k0_off21 (k0_t2 : Fin k0_t2_loop.trips) : Fin 6 → Nat :=
  let c0_133 : Index := 0#32
  let c0_134 : Index := 0#32
  let c3_135 : Index := 3#32
  let c0_i32_86 : BitVec 32 := 0#32
  let c1_i32_87 : BitVec 32 := 1#32
  let arg7 : BitVec 32 := Scf.iv c0_i32_86 c1_i32_87 k0_t2
  let v271 : Index := Scalar.indexCast arg7
  let c0_136 : Index := 0#32
  let c0_137 : Index := 0#32
  ![0, 0, 3, v271.toNat, 0, 0]
def k0_off22 (k0_t2 : Fin k0_t2_loop.trips) : Fin 6 → Nat :=
  let c0_138 : Index := 0#32
  let c0_139 : Index := 0#32
  let c4_140 : Index := 4#32
  let c0_i32_86 : BitVec 32 := 0#32
  let c1_i32_87 : BitVec 32 := 1#32
  let arg7 : BitVec 32 := Scf.iv c0_i32_86 c1_i32_87 k0_t2
  let v276 : Index := Scalar.indexCast arg7
  let c0_141 : Index := 0#32
  let c0_142 : Index := 0#32
  ![0, 0, 4, v276.toNat, 0, 0]
def k0_off23 (k0_t2 : Fin k0_t2_loop.trips) : Fin 6 → Nat :=
  let c0_143 : Index := 0#32
  let c0_144 : Index := 0#32
  let c5_145 : Index := 5#32
  let c0_i32_86 : BitVec 32 := 0#32
  let c1_i32_87 : BitVec 32 := 1#32
  let arg7 : BitVec 32 := Scf.iv c0_i32_86 c1_i32_87 k0_t2
  let v281 : Index := Scalar.indexCast arg7
  let c0_146 : Index := 0#32
  let c0_147 : Index := 0#32
  ![0, 0, 5, v281.toNat, 0, 0]
def k0_off24 (k0_t2 : Fin k0_t2_loop.trips) : Fin 6 → Nat :=
  let c0_148 : Index := 0#32
  let c0_149 : Index := 0#32
  let c6_150 : Index := 6#32
  let c0_i32_86 : BitVec 32 := 0#32
  let c1_i32_87 : BitVec 32 := 1#32
  let arg7 : BitVec 32 := Scf.iv c0_i32_86 c1_i32_87 k0_t2
  let v286 : Index := Scalar.indexCast arg7
  let c0_151 : Index := 0#32
  let c0_152 : Index := 0#32
  ![0, 0, 6, v286.toNat, 0, 0]
def k0_off25 (k0_t2 : Fin k0_t2_loop.trips) : Fin 6 → Nat :=
  let c0_153 : Index := 0#32
  let c0_154 : Index := 0#32
  let c7_155 : Index := 7#32
  let c0_i32_86 : BitVec 32 := 0#32
  let c1_i32_87 : BitVec 32 := 1#32
  let arg7 : BitVec 32 := Scf.iv c0_i32_86 c1_i32_87 k0_t2
  let v291 : Index := Scalar.indexCast arg7
  let c0_156 : Index := 0#32
  let c0_157 : Index := 0#32
  ![0, 0, 7, v291.toNat, 0, 0]
def k0_off26 (k0_t2 : Fin k0_t2_loop.trips) : Fin 6 → Nat :=
  let c0_158 : Index := 0#32
  let c0_159 : Index := 0#32
  let c8_160 : Index := 8#32
  let c0_i32_86 : BitVec 32 := 0#32
  let c1_i32_87 : BitVec 32 := 1#32
  let arg7 : BitVec 32 := Scf.iv c0_i32_86 c1_i32_87 k0_t2
  let v296 : Index := Scalar.indexCast arg7
  let c0_161 : Index := 0#32
  let c0_162 : Index := 0#32
  ![0, 0, 8, v296.toNat, 0, 0]
def k0_off27 (k0_t2 : Fin k0_t2_loop.trips) : Fin 6 → Nat :=
  let c0_163 : Index := 0#32
  let c0_164 : Index := 0#32
  let c9_165 : Index := 9#32
  let c0_i32_86 : BitVec 32 := 0#32
  let c1_i32_87 : BitVec 32 := 1#32
  let arg7 : BitVec 32 := Scf.iv c0_i32_86 c1_i32_87 k0_t2
  let v301 : Index := Scalar.indexCast arg7
  let c0_166 : Index := 0#32
  let c0_167 : Index := 0#32
  ![0, 0, 9, v301.toNat, 0, 0]
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x1x11x36x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x10x36x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "inv_d" => some ((1 / 160 : ℝ) : EReal)
  | "key_scale" => some (((Real.sqrt 160)⁻¹ * (Real.log 2)⁻¹ : ℝ) : EReal)
  | "other_mask" => some (((-1000000000) * (Real.log 2)⁻¹ : ℝ) : EReal)
  | "self_mask" => some (((-100000) * (Real.log 2)⁻¹ : ℝ) : EReal)
  | _ => none
-- ==== ReferenceIdeal.lean ====
abbrev S12x10x11x36x8x128 : Shape := ⟨6, ![12, 10, 11, 36, 8, 128]⟩
abbrev S12x10x5x36x8x128 : Shape := ⟨6, ![12, 10, 5, 36, 8, 128]⟩
abbrev S12x10x5x36x32x128 : Shape := ⟨6, ![12, 10, 5, 36, 32, 128]⟩
abbrev S12x10x36x128x5x32 : Shape := ⟨6, ![12, 10, 36, 128, 5, 32]⟩
abbrev S12x10x4608x160 : Shape := ⟨4, ![12, 10, 4608, 160]⟩
abbrev S12x10x1x36x8x128 : Shape := ⟨6, ![12, 10, 1, 36, 8, 128]⟩
abbrev S12x10x36x8x128 : Shape := ⟨5, ![12, 10, 36, 8, 128]⟩
abbrev S12x10x36x128x8 : Shape := ⟨5, ![12, 10, 36, 128, 8]⟩
abbrev S12x10x4608x8 : Shape := ⟨4, ![12, 10, 4608, 8]⟩
abbrev S12x10x4608x5 : Shape := ⟨4, ![12, 10, 4608, 5]⟩
abbrev S12x10x4608x1 : Shape := ⟨4, ![12, 10, 4608, 1]⟩
abbrev S12x10x4608 : Shape := ⟨3, ![12, 10, 4608]⟩
abbrev S4608 : Shape := ⟨1, ![4608]⟩
abbrev S12x10x4608x5x32 : Shape := ⟨5, ![12, 10, 4608, 5, 32]⟩
abbrev S12x10x4608x5x1 : Shape := ⟨5, ![12, 10, 4608, 5, 1]⟩
abbrev S12x10x72x64x160 : Shape := ⟨5, ![12, 10, 72, 64, 160]⟩
abbrev S_ : Shape := ⟨0, ![]⟩
abbrev S12x10x72x64 : Shape := ⟨4, ![12, 10, 72, 64]⟩
abbrev S12x10x1x64x160 : Shape := ⟨5, ![12, 10, 1, 64, 160]⟩
abbrev S12x10x71x64x160 : Shape := ⟨5, ![12, 10, 71, 64, 160]⟩
abbrev S12x10x72x128x160 : Shape := ⟨5, ![12, 10, 72, 128, 160]⟩
abbrev S12x10x1x64 : Shape := ⟨4, ![12, 10, 1, 64]⟩
abbrev S12x10x71x64 : Shape := ⟨4, ![12, 10, 71, 64]⟩
abbrev S12x10x72x128 : Shape := ⟨4, ![12, 10, 72, 128]⟩
abbrev S12x10x72x64x128 : Shape := ⟨5, ![12, 10, 72, 64, 128]⟩
abbrev S12x10x72x1x128 : Shape := ⟨5, ![12, 10, 72, 1, 128]⟩
abbrev S12x10x72x64x1 : Shape := ⟨5, ![12, 10, 72, 64, 1]⟩
abbrev S12x10x36x128x10x16 : Shape := ⟨6, ![12, 10, 36, 128, 10, 16]⟩
abbrev S12x10x10x36x16x128 : Shape := ⟨6, ![12, 10, 10, 36, 16, 128]⟩

abbrev nBuf : Space → Nat
  | .hbm => 120
  | .vmem => 4
  | .smem => 0
  | _ => 0

abbrev bufTy : (tb : Table) → Fin (tcTables nBuf tb) → BufTy
  | .hbm, ⟨0, _⟩ => ⟨S12x10x11x36x8x128, .i32⟩
  | .hbm, ⟨1, _⟩ => ⟨S12x10x5x36x8x128, .i32⟩
  | .hbm, ⟨2, _⟩ => ⟨S12x10x5x36x32x128, .bf16⟩
  | .hbm, ⟨3, _⟩ => ⟨S12x10x36x128x5x32, .bf16⟩
  | .hbm, ⟨4, _⟩ => ⟨S12x10x4608x160, .bf16⟩
  | .hbm, ⟨5, _⟩ => ⟨S12x10x5x36x8x128, .i32⟩
  | .hbm, ⟨6, _⟩ => ⟨S12x10x5x36x32x128, .bf16⟩
  | .hbm, ⟨7, _⟩ => ⟨S12x10x36x128x5x32, .bf16⟩
  | .hbm, ⟨8, _⟩ => ⟨S12x10x4608x160, .bf16⟩
  | .hbm, ⟨9, _⟩ => ⟨S12x10x1x36x8x128, .i32⟩
  | .hbm, ⟨10, _⟩ => ⟨S12x10x36x8x128, .i32⟩
  | .hbm, ⟨11, _⟩ => ⟨S12x10x36x128x8, .i32⟩
  | .hbm, ⟨12, _⟩ => ⟨S12x10x4608x8, .i32⟩
  | .hbm, ⟨13, _⟩ => ⟨S12x10x4608x5, .i32⟩
  | .hbm, ⟨14, _⟩ => ⟨S12x10x4608x5, .f32⟩
  | .hbm, ⟨15, _⟩ => ⟨S12x10x4608x1, .i32⟩
  | .hbm, ⟨16, _⟩ => ⟨S12x10x4608, .i32⟩
  | .hbm, ⟨17, _⟩ => ⟨S12x10x4608, .f32⟩
  | .hbm, ⟨18, _⟩ => ⟨S12x10x4608x1, .i32⟩
  | .hbm, ⟨19, _⟩ => ⟨S12x10x4608, .i32⟩
  | .hbm, ⟨20, _⟩ => ⟨S4608, .i32⟩
  | .hbm, ⟨21, _⟩ => ⟨S12x10x4608, .i32⟩
  | .hbm, ⟨22, _⟩ => ⟨S12x10x4608x5x32, .bf16⟩
  | .hbm, ⟨23, _⟩ => ⟨S12x10x4608x5, .bf16⟩
  | .hbm, ⟨24, _⟩ => ⟨S12x10x4608x5x1, .bf16⟩
  | .hbm, ⟨25, _⟩ => ⟨S12x10x4608x5x32, .bf16⟩
  | .hbm, ⟨26, _⟩ => ⟨S12x10x4608x5x32, .bf16⟩
  | .hbm, ⟨27, _⟩ => ⟨S12x10x72x64x160, .bf16⟩
  | .hbm, ⟨28, _⟩ => ⟨S12x10x72x64x160, .f32⟩
  | .hbm, ⟨29, _⟩ => ⟨S12x10x72x64x160, .f32⟩
  | .hbm, ⟨30, _⟩ => ⟨S_, .f32⟩
  | .hbm, ⟨31, _⟩ => ⟨S12x10x72x64, .f32⟩
  | .hbm, ⟨32, _⟩ => ⟨S_, .f32⟩
  | .hbm, ⟨33, _⟩ => ⟨S12x10x72x64, .f32⟩
  | .hbm, ⟨34, _⟩ => ⟨S12x10x72x64, .f32⟩
  | .hbm, ⟨35, _⟩ => ⟨S_, .f32⟩
  | .hbm, ⟨36, _⟩ => ⟨S12x10x72x64, .f32⟩
  | .hbm, ⟨37, _⟩ => ⟨S12x10x72x64, .f32⟩
  | .hbm, ⟨38, _⟩ => ⟨S12x10x72x64, .f32⟩
  | .hbm, ⟨39, _⟩ => ⟨S_, .f32⟩
  | .hbm, ⟨40, _⟩ => ⟨S_, .f32⟩
  | .hbm, ⟨41, _⟩ => ⟨S12x10x72x64, .f32⟩
  | .hbm, ⟨42, _⟩ => ⟨S12x10x72x64, .f32⟩
  | .hbm, ⟨43, _⟩ => ⟨S12x10x72x64, .i32⟩
  | .hbm, ⟨44, _⟩ => ⟨S12x10x72x64, .i32⟩
  | .hbm, ⟨45, _⟩ => ⟨S12x10x1x64x160, .bf16⟩
  | .hbm, ⟨46, _⟩ => ⟨S12x10x71x64x160, .bf16⟩
  | .hbm, ⟨47, _⟩ => ⟨S12x10x72x64x160, .bf16⟩
  | .hbm, ⟨48, _⟩ => ⟨S12x10x72x128x160, .bf16⟩
  | .hbm, ⟨49, _⟩ => ⟨S12x10x1x64, .f32⟩
  | .hbm, ⟨50, _⟩ => ⟨S12x10x71x64, .f32⟩
  | .hbm, ⟨51, _⟩ => ⟨S12x10x72x64, .f32⟩
  | .hbm, ⟨52, _⟩ => ⟨S12x10x72x128, .f32⟩
  | .hbm, ⟨53, _⟩ => ⟨S12x10x72x64x160, .bf16⟩
  | .hbm, ⟨54, _⟩ => ⟨S12x10x1x64x160, .bf16⟩
  | .hbm, ⟨55, _⟩ => ⟨S12x10x71x64x160, .bf16⟩
  | .hbm, ⟨56, _⟩ => ⟨S12x10x72x64x160, .bf16⟩
  | .hbm, ⟨57, _⟩ => ⟨S12x10x72x128x160, .bf16⟩
  | .hbm, ⟨58, _⟩ => ⟨S12x10x72x64, .f32⟩
  | .hbm, ⟨59, _⟩ => ⟨S12x10x1x64, .f32⟩
  | .hbm, ⟨60, _⟩ => ⟨S12x10x71x64, .f32⟩
  | .hbm, ⟨61, _⟩ => ⟨S12x10x72x64, .f32⟩
  | .hbm, ⟨62, _⟩ => ⟨S12x10x72x128, .f32⟩
  | .hbm, ⟨63, _⟩ => ⟨S12x10x1x64, .i32⟩
  | .hbm, ⟨64, _⟩ => ⟨S12x10x71x64, .i32⟩
  | .hbm, ⟨65, _⟩ => ⟨S12x10x72x64, .i32⟩
  | .hbm, ⟨66, _⟩ => ⟨S12x10x72x128, .i32⟩
  | .hbm, ⟨67, _⟩ => ⟨S12x10x1x64, .i32⟩
  | .hbm, ⟨68, _⟩ => ⟨S12x10x71x64, .i32⟩
  | .hbm, ⟨69, _⟩ => ⟨S12x10x72x64, .i32⟩
  | .hbm, ⟨70, _⟩ => ⟨S12x10x72x128, .i32⟩
  | .hbm, ⟨71, _⟩ => ⟨S12x10x72x64x128, .f32⟩
  | .hbm, ⟨72, _⟩ => ⟨S12x10x72x1x128, .f32⟩
  | .hbm, ⟨73, _⟩ => ⟨S12x10x72x64x128, .f32⟩
  | .hbm, ⟨74, _⟩ => ⟨S12x10x72x64x128, .f32⟩
  | .hbm, ⟨75, _⟩ => ⟨S12x10x72x64x1, .i32⟩
  | .hbm, ⟨76, _⟩ => ⟨S12x10x72x1x128, .i32⟩
  | .hbm, ⟨77, _⟩ => ⟨S12x10x72x1x128, .i32⟩
  | .hbm, ⟨78, _⟩ => ⟨S12x10x72x64x1, .i32⟩
  | .hbm, ⟨79, _⟩ => ⟨S12x10x72x64x128, .i32⟩
  | .hbm, ⟨80, _⟩ => ⟨S12x10x72x64x128, .i32⟩
  | .hbm, ⟨81, _⟩ => ⟨S12x10x72x64x128, .i1⟩
  | .hbm, ⟨82, _⟩ => ⟨S12x10x72x64x128, .i32⟩
  | .hbm, ⟨83, _⟩ => ⟨S12x10x72x64x128, .i32⟩
  | .hbm, ⟨84, _⟩ => ⟨S12x10x72x64x128, .i1⟩
  | .hbm, ⟨85, _⟩ => ⟨S12x10x72x64x128, .i1⟩
  | .hbm, ⟨86, _⟩ => ⟨S12x10x72x64x128, .i32⟩
  | .hbm, ⟨87, _⟩ => ⟨S12x10x72x64x128, .i32⟩
  | .hbm, ⟨88, _⟩ => ⟨S12x10x72x64x128, .i1⟩
  | .hbm, ⟨89, _⟩ => ⟨S_, .f32⟩
  | .hbm, ⟨90, _⟩ => ⟨S_, .f32⟩
  | .hbm, ⟨91, _⟩ => ⟨S12x10x72x64x128, .f32⟩
  | .hbm, ⟨92, _⟩ => ⟨S12x10x72x64x128, .f32⟩
  | .hbm, ⟨93, _⟩ => ⟨S_, .f32⟩
  | .hbm, ⟨94, _⟩ => ⟨S_, .f32⟩
  | .hbm, ⟨95, _⟩ => ⟨S12x10x72x64x128, .f32⟩
  | .hbm, ⟨96, _⟩ => ⟨S12x10x72x64x128, .f32⟩
  | .hbm, ⟨97, _⟩ => ⟨S_, .f32⟩
  | .hbm, ⟨98, _⟩ => ⟨S12x10x72x64, .f32⟩
  | .hbm, ⟨99, _⟩ => ⟨S_, .f32⟩
  | .hbm, ⟨100, _⟩ => ⟨S12x10x72x64, .f32⟩
  | .hbm, ⟨101, _⟩ => ⟨S12x10x72x64, .f32⟩
  | .hbm, ⟨102, _⟩ => ⟨S12x10x72x64x1, .f32⟩
  | .hbm, ⟨103, _⟩ => ⟨S12x10x72x64x128, .f32⟩
  | .hbm, ⟨104, _⟩ => ⟨S12x10x72x64x128, .f32⟩
  | .hbm, ⟨105, _⟩ => ⟨S12x10x72x64x128, .f32⟩
  | .hbm, ⟨106, _⟩ => ⟨S_, .f32⟩
  | .hbm, ⟨107, _⟩ => ⟨S12x10x72x64, .f32⟩
  | .hbm, ⟨108, _⟩ => ⟨S12x10x72x64x1, .f32⟩
  | .hbm, ⟨109, _⟩ => ⟨S12x10x72x64x128, .f32⟩
  | .hbm, ⟨110, _⟩ => ⟨S12x10x72x64x128, .f32⟩
  | .hbm, ⟨111, _⟩ => ⟨S12x10x72x1x128, .f32⟩
  | .hbm, ⟨112, _⟩ => ⟨S12x10x72x64x128, .f32⟩
  | .hbm, ⟨113, _⟩ => ⟨S12x10x72x64x128, .f32⟩
  | .hbm, ⟨114, _⟩ => ⟨S12x10x72x64x128, .bf16⟩
  | .hbm, ⟨115, _⟩ => ⟨S12x10x72x64x160, .f32⟩
  | .hbm, ⟨116, _⟩ => ⟨S12x10x4608x160, .f32⟩
  | .hbm, ⟨117, _⟩ => ⟨S12x10x4608x160, .bf16⟩
  | .hbm, ⟨118, _⟩ => ⟨S12x10x36x128x10x16, .bf16⟩
  | .hbm, ⟨119, _⟩ => ⟨S12x10x10x36x16x128, .bf16⟩
  | .local _ .vmem, ⟨0, _⟩ => ⟨S12x10x5x36x8x128, .i32⟩
  | .local _ .vmem, ⟨1, _⟩ => ⟨S12x10x5x36x32x128, .bf16⟩
  | .local _ .vmem, ⟨2, _⟩ => ⟨S12x10x5x36x8x128, .i32⟩
  | .local _ .vmem, ⟨3, _⟩ => ⟨S12x10x5x36x32x128, .bf16⟩
  | _, _ => ⟨S12x10x11x36x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_cst : Ref sig .tc := ⟨.hbm, 30, rfl⟩
abbrev main_v29 : Ref sig .tc := ⟨.hbm, 31, rfl⟩
abbrev main_cst_0 : Ref sig .tc := ⟨.hbm, 32, rfl⟩
abbrev main_v30 : Ref sig .tc := ⟨.hbm, 33, rfl⟩
abbrev main_v31 : Ref sig .tc := ⟨.hbm, 34, rfl⟩
abbrev main_cst_1 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_2 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call0_v0 : Ref sig .tc := ⟨.hbm, 45, rfl⟩
abbrev main_call0_v1 : Ref sig .tc := ⟨.hbm, 46, rfl⟩
abbrev main_v40 : Ref sig .tc := ⟨.hbm, 47, rfl⟩
abbrev main_v41 : Ref sig .tc := ⟨.hbm, 48, rfl⟩
abbrev main_call1_v0 : Ref sig .tc := ⟨.hbm, 49, rfl⟩
abbrev main_call1_v1 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_call2_v0 : Ref sig .tc := ⟨.hbm, 54, rfl⟩
abbrev main_call2_v1 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call3_v0 : Ref sig .tc := ⟨.hbm, 59, rfl⟩
abbrev main_call3_v1 : Ref sig .tc := ⟨.hbm, 60, rfl⟩
abbrev main_v48 : Ref sig .tc := ⟨.hbm, 61, rfl⟩
abbrev main_v49 : Ref sig .tc := ⟨.hbm, 62, rfl⟩
abbrev main_call4_v0 : Ref sig .tc := ⟨.hbm, 63, rfl⟩
abbrev main_call4_v1 : Ref sig .tc := ⟨.hbm, 64, rfl⟩
abbrev main_v50 : Ref sig .tc := ⟨.hbm, 65, rfl⟩
abbrev main_v51 : Ref sig .tc := ⟨.hbm, 66, rfl⟩
abbrev main_call5_v0 : Ref sig .tc := ⟨.hbm, 67, rfl⟩
abbrev main_call5_v1 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_3 : Ref sig .tc := ⟨.hbm, 89, rfl⟩
abbrev main_call6_v0 : Ref sig .tc := ⟨.hbm, 90, rfl⟩
abbrev main_call6_v1 : Ref sig .tc := ⟨.hbm, 91, rfl⟩
abbrev main_v72 : Ref sig .tc := ⟨.hbm, 92, rfl⟩
abbrev main_cst_4 : Ref sig .tc := ⟨.hbm, 93, rfl⟩
abbrev main_call7_v0 : Ref sig .tc := ⟨.hbm, 94, rfl⟩
abbrev main_call7_v1 : Ref sig .tc := ⟨.hbm, 95, rfl⟩
abbrev main_v73 : Ref sig .tc := ⟨.hbm, 96, rfl⟩
abbrev main_cst_5 : Ref sig .tc := ⟨.hbm, 97, rfl⟩
abbrev main_v74 : Ref sig .tc := ⟨.hbm, 98, rfl⟩
abbrev main_cst_6 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_7 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc0_sem0_0 : DmaSem sig := 0
abbrev cc0_sem1_0 : DmaSem sig := 1
abbrev cc1_sem0_0 : DmaSem sig := 2
abbrev cc1_sem1_0 : DmaSem sig := 3

abbrev nD : Nat := 1
abbrev τ : Topo := Topo.v7x

variable {F : FTy → Type} [FloatOps F]

abbrev grid0 : Pipeline.Grid := .none

abbrev stage0_0 : Fin 1 → Memref sig .tc .vmem S12x10x5x36x8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x10x5x36x32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S12x10x5x36x8x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S12x10x5x36x32x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== Proof.KernelFrame.lean ====
/- The frame of the kernel as printed: it terminates without fault, leaves its argument as it was, and every
   semaphore counter ends at zero. What it leaves in its output is not named here. -/
module

public import proofs.«01_k».proof.Proof.Gen.Kernel.Loops
public import proofs.«01_k».proof.Proof.Gen.Kernel.Launch
public import proofs.«01_k».proof.Proof.Gen.Kernel.Points
public import Idealize.ShloMosaic.Lib.Claim
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePost.arr_in h c 0 rfl).trans ((hA c 0).trans (V_main_arg0 m c))) h

/-! ## The kernel body on any staging memrefs: a subtype the run finds -/

/-- Each window's current staging memref at point `t`, spelled as the pipeline passes it (`bodyAt0`), and its wholeness. -/
abbrev ms0_0 (t : Fin cfg0.N) : Memref sig .tc .vmem S1x1x11x36x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x10x36x16x128 .bf16 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S37x160x128 .bf16 := Memref.whole cc0_scratch0
abbrev scM0_1 : Memref sig .tc .vmem S4736x176 .bf16 := Memref.whole cc0_scratch1
abbrev scM0_2 : Memref sig .tc .vmem S37x160x128 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 1000000 in
/-- The body's triple: on whole staging memrefs — the inputs' at their contents,
    the FORGOTTEN outputs' (1) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x1x11x36x8x128 .i32) (harg2 : arg2.IsWhole) (arg3 : Memref sig .tc .vmem S1x1x10x36x16x128 .bf16) (harg3 : arg3.IsWhole) (arg4 : Memref sig .tc .vmem S37x160x128 .bf16) (harg4 : arg4.IsWhole) (arg5 : Memref sig .tc .vmem S4736x176 .bf16) (harg5 : arg5.IsWhole) (arg6 : Memref sig .tc .vmem S37x160x128 .bf16) (harg6 : arg6.IsWhole)
    (x0 : Vec F S1x1x11x36x8x128 .i32) :
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_attn i arg2 harg2 arg3 harg3 arg4 harg4 arg5 harg5 arg6 harg6) K := by
    intro E K
    simp only [cc0_attn_eq_skeleton]; unfold cc0_attn_skel
    simp only [k0_part11_eq_skeleton, k0_part7_eq_skeleton, k0_part8_eq_skeleton, k0_part9_eq_skeleton, k0_part10_eq_skeleton]
    unfold owns
    iintro ⟨⟨%f0, %hf0, H0⟩, ⟨%d1, %f1, -, H1⟩, ⟨%ds0, %fs0, -, HS0⟩, ⟨%ds1, %fs1, -, HS1⟩, ⟨%ds2, %fs2, -, HS2⟩, Hk⟩
    obtain rfl := harg2.eq_unread hf0
    sl_exec
    sl_step
    iapply Hk
    isplitl [H0]
    · iexists _; isplitr; · ipureintro; exact harg2.read_unread _
      iexact H0
    isplitl [H1]
    · iexists _, _; isplitr; swap; · iexact H1
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The output windows this certificate FORGETS (1): nothing reads what the kernel leaves in them, so nothing
    of it is named (Lib/Pipeline/Dat.lean `Dat.toRForget`). -/
def forgets0 : Fin 2 → Bool := fun w => w.val == 1

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  iintro ⟨⟨⟨HS0, HS1, HS2⟩, Hg⟩, Ho, ⟨%d0, H0⟩, ⟨%d1, H1⟩⟩
  iapply ((kernelRun0_A c (grid0.coords t) _ _ _ _ _ _ _ _ _ _ (iblk m c 0 t)) Set.univ _)
  isplitl [H0]; · iexact H0
  isplitl [H1]; · iexists _; iexact H1
  isplitl [HS0]; · iexact HS0
  isplitl [HS1]; · iexact HS1
  isplitl [HS2]; · iexact HS2
  iintro ⟨H0, H1, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 1) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel.Hand

end
-- ==== Proof.Tiles.lean ====
/- What the idealized kernel keeps and stores for one head, as functions of the head's packed words: the three arrays
   it builds before the attention loop (keys by feature, keys by token with their scales appended, values), and the
   block of results of each tile of 128 tokens. -/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

/-- Row `d` of tile `t`: 8 x 128 words. -/
def wordAt (x : Vec F S1x1x11x36x8x128 .i32) (t : Fin 36) (d : Fin 11) : Vec F S1x1x1x1x8x128 .i32 :=
  fun y => x (ix6 0 0 d t (y 4) (y 5))

/-- The tile that slot `s` of the kept arrays holds: slot 0 and slot 36 hold the last tile, slot `s` tile `s - 1`. -/
def slot (s : Fin 37) : Fin 36 := if h : s.val = 0 then 35 else ⟨s.val - 1, by omega⟩

/-- The keys of a tile, feature by token. -/
def kT (w : Fin 11 → Vec F S1x1x1x1x8x128 .i32) : FVec F S1x160x128 .bf16 :=
  k0_pay59 (k0_pay9 (k0_pay2 (w 10) (w 0)) (k0_pay3 (w 10) (w 1)) (k0_pay5 (k0_pay1 (w 10)) (w 2))
    (k0_pay6 (k0_pay1 (w 10)) (w 3)) (k0_pay7 (k0_pay1 (w 10)) (w 4)))

/-- The row numbers 0 … 15 that place a key's scale in its appended entries. -/
def row16 : IVec S16x128 32 := iota .tc S16x128 32 [0] iota_S16x128_d0_w32

/-- The keys of a tile, token by feature, the three parts of the token's scale in entries 160, 161, 162. -/
def krT (w : Fin 11 → Vec F S1x1x1x1x8x128 .i32) : FVec F S128x176 .bf16 :=
  k0_pay60 (k0_pay10 row16 (k0_pay2 (w 10) (w 0)) (k0_pay3 (w 10) (w 1)) (k0_pay5 (k0_pay1 (w 10)) (w 2))
    (k0_pay6 (k0_pay1 (w 10)) (w 3)) (k0_pay7 (k0_pay1 (w 10)) (w 4))
    (k0_pay8 (k0_pay1 (w 10)) (k0_pay4 (w 10) (w 0) (w 1)) (w 2) (w 3) (w 4)))

/-- The values of a tile, feature by token. -/
def vT (w : Fin 11 → Vec F S1x1x1x1x8x128 .i32) : FVec F S1x160x128 .bf16 :=
  k0_pay61 (k0_pay1 (w 10)) (k0_pay11 (w 5)) (k0_pay12 (w 6)) (w 7) (w 8) (w 9)

/-- The kept keys by feature, slot by slot. -/
def KT (x : Vec F S1x1x11x36x8x128 .i32) : Vec F S37x160x128 .bf16 :=
  fun y => kT (wordAt x (slot (y 0))) (ix3 0 (y 1) (y 2))

/-- The kept keys by token, 128 rows a slot. -/
def KR (x : Vec F S1x1x11x36x8x128 .i32) : Vec F S4736x176 .bf16 :=
  fun y => krT (wordAt x (slot ⟨(y 0).val / 128, by have h : (y 0).val < 4736 := (y 0).isLt; omega⟩))
    (ix2 ⟨(y 0).val % 128, Nat.mod_lt _ (by decide)⟩ (y 1))

/-- The kept values, slot by slot. -/
def VT (x : Vec F S1x1x11x36x8x128 .i32) : Vec F S37x160x128 .bf16 :=
  fun y => vT (wordAt x (slot (y 0))) (ix3 0 (y 1) (y 2))

theorem trips1 : k0_t1_loop.trips = 35 := by decide
theorem trips2 : k0_t2_loop.trips = 36 := by decide

/-- The 192 tokens a tile attends to: the last half of the tile before and the tile. -/
def keysT (x : Vec F S1x1x11x36x8x128 .i32) (p : Fin 36) : Vec F S192x176 .bf16 :=
  fun y => KR x (ix2 ⟨128 * p.val + 64 + (y 0).val, by have h : (y 0).val < 192 := (y 0).isLt; have := p.isLt; omega⟩ (y 1))

/-- One slot of a kept array. -/
def slab (K : Vec F S37x160x128 .bf16) (s : Fin 37) : Vec F S1x160x128 .bf16 := fun y => K (ix3 s (y 1) (y 2))

/-- Row 6 of a tile's side words: where each token's bucket starts. -/
def startT (x : Vec F S1x1x11x36x8x128 .i32) (p : Fin 36) : Vec F S1x1x1x1x1x128 .i32 :=
  fun y => x (ix6 0 0 10 p 6 (y 5))

/-- The attention of one tile, feature by token, from what it loads. -/
def attT (k : Fin k0_t2_loop.trips) (keys : Vec F S192x176 .bf16) (q : Vec F S1x160x128 .bf16)
    (st : Vec F S1x1x1x1x1x128 .i32) (v0 v1 : Vec F S1x160x128 .bf16) : FVec F S160x128 .bf16 :=
  k0_pay19 k0_pay28 k0_pay29 k0_pay30 k0_pay32 (k0_pay14 k0_pay31 keys q) (k0_pay15 k0_pay31 keys q)
    (k0_pay17 (iota .tc S64x128 32 [1] iota_S64x128_d1_w32) (iota .tc S64x128 32 [0] iota_S64x128_d0_w32) k0_pay28
      k0_pay31 0#32 1#32 k keys q st)
    (k0_pay18 (iota .tc S64x128 32 [1] iota_S64x128_d1_w32) 0#32 1#32 k st) v0 v1

/-- The results of tile `p`, feature by token. -/
def oT (x : Vec F S1x1x11x36x8x128 .i32) (p : Fin 36) : FVec F S160x128 .bf16 :=
  attT ⟨p.val, by rw [trips2]; exact p.isLt⟩ (keysT x p) (slab (KT x) p.succ) (startT x p) (slab (VT x) p.castSucc) (slab (VT x) p.succ)

/-- The result block of a head: feature `16 g + s` of token `128 p + l` at `(g, p, s, l)`. -/
def outG (x : Vec F S1x1x11x36x8x128 .i32) : Vec F S1x1x10x36x16x128 .bf16 :=
  fun y => oT x (y 3) (ix2 ⟨16 * (y 2).val + (y 4).val, by
    have h : (y 2).val < 10 := (y 2).isLt; have h' : (y 4).val < 16 := (y 4).isLt; omega⟩ (y 5))

end Cert.KernelIdeal.Hand

end
-- ==== Proof.Pieces.lean ====
/- The pieces each loop of the idealized kernel stores, trip by trip, and what they leave: the kept arrays, then the
   result block. -/
module

public import proofs.«01_k».proof.Proof.Tiles
public import proofs.«01_k».proof.Proof.Gen.KernelIdeal.Loops
public import Idealize.ShloMosaic.Lib.Pipeline.Value
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

theorem readAt_word (v : View sig .tc .vmem S1x1x11x36x8x128 .i32) (X : v.ty.Contents (Elt F)) (off : Fin 6 → ℕ)
    (t : Fin 36) (d : Fin 11) (h : off = ![0, 0, d.val, t.val, 0, 0]) (inb) :
    v.readAt (Elt F) (Rect.unit (s := S1x1x11x36x8x128) off ![1, 1, 1, 1, 8, 128] inb).toLoadRect X
      = wordAt (F := F) (v.read (Elt F) X) t d := by
  subst h
  funext y
  refine congrArg (v.read (Elt F) X) ?_
  funext a
  apply Fin.ext
  fin_cases a
  · have h : (y (0 : Fin 6)).val < 1 := (y (0 : Fin 6)).isLt
    show 0 + 1 * (y (0 : Fin 6)).val = 0
    omega
  · have h : (y (1 : Fin 6)).val < 1 := (y (1 : Fin 6)).isLt
    show 0 + 1 * (y (1 : Fin 6)).val = 0
    omega
  · have h : (y (2 : Fin 6)).val < 1 := (y (2 : Fin 6)).isLt
    show d.val + 1 * (y (2 : Fin 6)).val = d.val
    omega
  · have h : (y (3 : Fin 6)).val < 1 := (y (3 : Fin 6)).isLt
    show t.val + 1 * (y (3 : Fin 6)).val = t.val
    omega
  · show 0 + 1 * (y (4 : Fin 6)).val = (y (4 : Fin 6)).val
    omega
  · show 0 + 1 * (y (5 : Fin 6)).val = (y (5 : Fin 6)).val
    omega

theorem readAt_start (v : View sig .tc .vmem S1x1x11x36x8x128 .i32) (X : v.ty.Contents (Elt F)) (off : Fin 6 → ℕ)
    (t : Fin 36) (h : off = ![0, 0, 10, t.val, 6, 0]) (inb) :
    v.readAt (Elt F) (Rect.unit (s := S1x1x11x36x8x128) off ![1, 1, 1, 1, 1, 128] inb).toLoadRect X
      = startT (F := F) (v.read (Elt F) X) t := by
  subst h
  funext y
  refine congrArg (v.read (Elt F) X) ?_
  funext a
  apply Fin.ext
  fin_cases a
  · have h : (y (0 : Fin 6)).val < 1 := (y (0 : Fin 6)).isLt
    show 0 + 1 * (y (0 : Fin 6)).val = 0
    omega
  · have h : (y (1 : Fin 6)).val < 1 := (y (1 : Fin 6)).isLt
    show 0 + 1 * (y (1 : Fin 6)).val = 0
    omega
  · have h : (y (2 : Fin 6)).val < 1 := (y (2 : Fin 6)).isLt
    show 10 + 1 * (y (2 : Fin 6)).val = 10
    omega
  · have h : (y (3 : Fin 6)).val < 1 := (y (3 : Fin 6)).isLt
    show t.val + 1 * (y (3 : Fin 6)).val = t.val
    omega
  · have h : (y (4 : Fin 6)).val < 1 := (y (4 : Fin 6)).isLt
    show 6 + 1 * (y (4 : Fin 6)).val = 6
    omega
  · show 0 + 1 * (y (5 : Fin 6)).val = (y (5 : Fin 6)).val
    omega

theorem readAt_slab (v : View sig .tc .vmem S37x160x128 .bf16) (X : v.ty.Contents (Elt F)) (off : Fin 3 → ℕ)
    (s : Fin 37) (h : off = ![s.val, 0, 0]) (inb) :
    v.readAt (Elt F) (Rect.unit (s := S37x160x128) off ![1, 160, 128] inb).toLoadRect X
      = slab (F := F) (v.read (Elt F) X) s := by
  subst h
  funext y
  refine congrArg (v.read (Elt F) X) ?_
  funext a
  apply Fin.ext
  fin_cases a
  · have h : (y (0 : Fin 3)).val < 1 := (y (0 : Fin 3)).isLt
    show s.val + 1 * (y (0 : Fin 3)).val = s.val
    omega
  · show 0 + 1 * (y (1 : Fin 3)).val = (y (1 : Fin 3)).val
    omega
  · show 0 + 1 * (y (2 : Fin 3)).val = (y (2 : Fin 3)).val
    omega

variable (c : Dev nD) (i : grid0.Coords) (arg2 : Memref sig .tc .vmem S1x1x11x36x8x128 .i32) (harg2 : arg2.IsWhole)
  (arg3 : Memref sig .tc .vmem S1x1x10x36x16x128 .bf16) (harg3 : arg3.IsWhole)
  (arg4 : Memref sig .tc .vmem S37x160x128 .bf16) (harg4 : arg4.IsWhole)
  (arg5 : Memref sig .tc .vmem S4736x176 .bf16) (harg5 : arg5.IsWhole)
  (arg6 : Memref sig .tc .vmem S37x160x128 .bf16) (harg6 : arg6.IsWhole)
  (X2 : BufTy.Contents (Elt F) arg2.view.ty)

/-- The tile of trip `k` of the first loop. -/
def tile1 (k : Fin k0_t1_loop.trips) : Fin 36 := ⟨k.val, by have h : k.val < k0_t1_loop.trips := k.isLt; have := trips1; omega⟩

/-- What trip `k` of the first loop stores. -/
theorem trip1 (k : Fin k0_t1_loop.trips) :
    tripL_k0_t1 (F := F) Variants.none c none i arg2 harg2 arg3 harg3 arg4 harg4 arg5 harg5 arg6 harg6 row16 X2 k
      = ([⟨Rect.unit (k0_off12 k) ![1, 160, 128] (Gen.k0_off12_inb k), kT (wordAt (arg2.view.read (Elt F) X2) (tile1 k))⟩],
         [⟨Rect.unit (k0_off13 k) ![128, 176] (Gen.k0_off13_inb k), krT (wordAt (arg2.view.read (Elt F) X2) (tile1 k))⟩],
         [⟨Rect.unit (k0_off12 k) ![1, 160, 128] (Gen.k0_off12_inb k), vT (wordAt (arg2.view.read (Elt F) X2) (tile1 k))⟩]) := by
  have e10 := readAt_word (F := F) arg2.view X2 (k0_off1 k) (tile1 k) 10 (Gen.k0_off1_eq k) (Gen.k0_off1_inb k)
  have e0 := readAt_word (F := F) arg2.view X2 (k0_off2 k) (tile1 k) 0 (Gen.k0_off2_eq k) (Gen.k0_off2_inb k)
  have e1 := readAt_word (F := F) arg2.view X2 (k0_off3 k) (tile1 k) 1 (Gen.k0_off3_eq k) (Gen.k0_off3_inb k)
  have e2 := readAt_word (F := F) arg2.view X2 (k0_off4 k) (tile1 k) 2 (Gen.k0_off4_eq k) (Gen.k0_off4_inb k)
  have e3 := readAt_word (F := F) arg2.view X2 (k0_off5 k) (tile1 k) 3 (Gen.k0_off5_eq k) (Gen.k0_off5_inb k)
  have e4 := readAt_word (F := F) arg2.view X2 (k0_off6 k) (tile1 k) 4 (Gen.k0_off6_eq k) (Gen.k0_off6_inb k)
  have e5 := readAt_word (F := F) arg2.view X2 (k0_off7 k) (tile1 k) 5 (Gen.k0_off7_eq k) (Gen.k0_off7_inb k)
  have e6 := readAt_word (F := F) arg2.view X2 (k0_off8 k) (tile1 k) 6 (Gen.k0_off8_eq k) (Gen.k0_off8_inb k)
  have e7 := readAt_word (F := F) arg2.view X2 (k0_off9 k) (tile1 k) 7 (Gen.k0_off9_eq k) (Gen.k0_off9_inb k)
  have e8 := readAt_word (F := F) arg2.view X2 (k0_off10 k) (tile1 k) 8 (Gen.k0_off10_eq k) (Gen.k0_off10_inb k)
  have e9 := readAt_word (F := F) arg2.view X2 (k0_off11 k) (tile1 k) 9 (Gen.k0_off11_eq k) (Gen.k0_off11_inb k)
  unfold kT krT vT
  rw [← e10, ← e0, ← e1, ← e2, ← e3, ← e4, ← e5, ← e6, ← e7, ← e8, ← e9]
  unfold tripL_k0_t1 trip_k0_t1
  rfl

theorem readAt_keys (v : View sig .tc .vmem S4736x176 .bf16) (X : v.ty.Contents (Elt F)) (off : Fin 2 → ℕ)
    (x : Vec F S1x1x11x36x8x128 .i32) (hX : v.read (Elt F) X = KR x)
    (p : Fin 36) (h : off = ![128 * p.val + 64, 0]) (inb) :
    v.readAt (Elt F) (Rect.unit (s := S4736x176) off ![192, 176] inb).toLoadRect X = keysT (F := F) x p := by
  subst h
  funext y
  refine (congrArg (v.read (Elt F) X) ?_).trans (congrFun hX (ix2 ⟨128 * p.val + 64 + (y 0).val, by
    have h : (y 0).val < 192 := (y 0).isLt; have := p.isLt; omega⟩ (y 1)))
  funext a
  apply Fin.ext
  fin_cases a
  · show 128 * p.val + 64 + 1 * (y (0 : Fin 2)).val = 128 * p.val + 64 + (y (0 : Fin 2)).val
    omega
  · show 0 + 1 * (y (1 : Fin 2)).val = (y (1 : Fin 2)).val
    omega

/-- The tile of trip `k` of the second loop. -/
def tile2 (k : Fin k0_t2_loop.trips) : Fin 36 := ⟨k.val, by have h : k.val < k0_t2_loop.trips := k.isLt; have := trips2; omega⟩

variable (X4 : BufTy.Contents (Elt F) arg4.view.ty) (X5 : BufTy.Contents (Elt F) arg5.view.ty)
  (X6 : BufTy.Contents (Elt F) arg6.view.ty)

/-- What trip `k` of the second loop stores: the ten slabs of its tile's results. -/
theorem trip2 (k : Fin k0_t2_loop.trips) (x : Vec F S1x1x11x36x8x128 .i32) (h2 : arg2.view.read (Elt F) X2 = x)
    (h4 : arg4.view.read (Elt F) X4 = KT x) (h5 : arg5.view.read (Elt F) X5 = KR x) (h6 : arg6.view.read (Elt F) X6 = VT x) :
    tripL_k0_t2 (F := F) Variants.none c none i arg2 harg2 arg3 harg3 arg4 harg4 arg5 harg5 arg6 harg6
        (iota .tc S64x128 32 [1] iota_S64x128_d1_w32) (iota .tc S64x128 32 [0] iota_S64x128_d0_w32) k0_pay28 k0_pay29
        k0_pay30 k0_pay31 k0_pay32 X2 X4 X5 X6 k
      = [⟨Rect.unit (k0_off27 k) ![1, 1, 1, 1, 16, 128] (Gen.k0_off27_inb k), k0_pay65 (oT x (tile2 k))⟩,
         ⟨Rect.unit (k0_off26 k) ![1, 1, 1, 1, 16, 128] (Gen.k0_off26_inb k), k0_pay64 (oT x (tile2 k))⟩,
         ⟨Rect.unit (k0_off25 k) ![1, 1, 1, 1, 16, 128] (Gen.k0_off25_inb k), k0_pay63 (oT x (tile2 k))⟩,
         ⟨Rect.unit (k0_off24 k) ![1, 1, 1, 1, 16, 128] (Gen.k0_off24_inb k), k0_pay62 (k0_pay27 (oT x (tile2 k)))⟩,
         ⟨Rect.unit (k0_off23 k) ![1, 1, 1, 1, 16, 128] (Gen.k0_off23_inb k), k0_pay26 (oT x (tile2 k))⟩,
         ⟨Rect.unit (k0_off22 k) ![1, 1, 1, 1, 16, 128] (Gen.k0_off22_inb k), k0_pay25 (oT x (tile2 k))⟩,
         ⟨Rect.unit (k0_off21 k) ![1, 1, 1, 1, 16, 128] (Gen.k0_off21_inb k), k0_pay24 (oT x (tile2 k))⟩,
         ⟨Rect.unit (k0_off20 k) ![1, 1, 1, 1, 16, 128] (Gen.k0_off20_inb k), k0_pay23 (oT x (tile2 k))⟩,
         ⟨Rect.unit (k0_off19 k) ![1, 1, 1, 1, 16, 128] (Gen.k0_off19_inb k), k0_pay22 (oT x (tile2 k))⟩,
         ⟨Rect.unit (k0_off18 k) ![1, 1, 1, 1, 16, 128] (Gen.k0_off18_inb k),
           k0_pay21 (extractStridedSlice S16x128 ![0, 0] (oT x (tile2 k)) slices_S160x128_o0_0_S16x128)⟩] := by
  have e1 := readAt_keys (F := F) arg5.view X5 (k0_off14 k) x h5 (tile2 k) (Gen.k0_off14_eq k) (Gen.k0_off14_inb k)
  have e2 := readAt_slab (F := F) arg4.view X4 (k0_off15 k) (tile2 k).succ (Gen.k0_off15_eq k) (Gen.k0_off15_inb k)
  have e3 := readAt_start (F := F) arg2.view X2 (k0_off16 k) (tile2 k) (Gen.k0_off16_eq k) (Gen.k0_off16_inb k)
  have e4 := readAt_slab (F := F) arg6.view X6 (k0_off17 k) (tile2 k).castSucc (Gen.k0_off17_eq k) (Gen.k0_off17_inb k)
  have e5 := readAt_slab (F := F) arg6.view X6 (k0_off15 k) (tile2 k).succ (Gen.k0_off15_eq k) (Gen.k0_off15_inb k)
  rw [h4] at e2
  rw [h2] at e3
  rw [h6] at e4 e5
  unfold oT
  rw [← e1, ← e2, ← e3, ← e4, ← e5]
  unfold tripL_k0_t2 trip_k0_t2
  rfl

end Cert.KernelIdeal.Hand

end
-- ==== Proof.Kept.lean ====
/- What the loops of the idealized kernel leave: after the first, the three kept arrays hold `KT`, `KR` and `VT`; after
   the second, the result block holds `outG`. -/
module

public import proofs.«01_k».proof.Proof.Pieces
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

/-! ## One piece against the array it belongs to -/

theorem agree_slab (off : Fin 3 → ℕ) (s : Fin 37) (h : off = ![s.val, 0, 0]) (inb) (K : Vec F S37x160x128 .bf16)
    (w : Vec F S1x160x128 .bf16) (hw : ∀ (a : Fin 160) (b : Fin 128), w (ix3 0 a b) = K (ix3 s a b)) (x) :
    w x = K ((Rect.unit (s := S37x160x128) off ![1, 160, 128] inb).emb x) := by
  subst h
  have h0 : (x (0 : Fin 3)).val < 1 := (x (0 : Fin 3)).isLt
  have hx : x = (ix3 0 (x (1 : Fin 3)) (x (2 : Fin 3)) : S1x160x128.Idx) := by
    funext a; apply Fin.ext; fin_cases a
    · show (x (0 : Fin 3)).val = 0; omega
    · rfl
    · rfl
  have he : (Rect.unit (s := S37x160x128) ![s.val, 0, 0] ![1, 160, 128] inb).emb x
      = (ix3 s (x (1 : Fin 3)) (x (2 : Fin 3)) : S37x160x128.Idx) := by
    funext a; apply Fin.ext; fin_cases a
    · show s.val + 1 * (x (0 : Fin 3)).val = s.val; omega
    · show 0 + 1 * (x (1 : Fin 3)).val = (x (1 : Fin 3)).val; omega
    · show 0 + 1 * (x (2 : Fin 3)).val = (x (2 : Fin 3)).val; omega
  rw [he]
  exact (congrArg w hx).trans (hw _ _)

theorem cover_slab (off : Fin 3 → ℕ) (s : Fin 37) (h : off = ![s.val, 0, 0]) (inb) (y : S37x160x128.Idx)
    (hy : (y 0).val = s.val) : y ∈ (Rect.unit (s := S37x160x128) off ![1, 160, 128] inb).set := by
  subst h
  rw [Rect.mem_set_unit]
  intro a
  fin_cases a
  · exact ⟨le_of_eq hy.symm, by show (y 0).val < s.val + 1; omega⟩
  · exact ⟨Nat.zero_le _, by show (y 1).val < 0 + 160; have h : (y 1).val < 160 := (y 1).isLt; omega⟩
  · exact ⟨Nat.zero_le _, by show (y 2).val < 0 + 128; have h : (y 2).val < 128 := (y 2).isLt; omega⟩

theorem agree_rows (off : Fin 2 → ℕ) (s : Fin 37) (h : off = ![128 * s.val, 0]) (inb) (K : Vec F S4736x176 .bf16)
    (w : Vec F S128x176 .bf16)
    (hw : ∀ (a : Fin 128) (b : Fin 176), w (ix2 a b) = K (ix2 ⟨128 * s.val + a.val, by omega⟩ b)) (x) :
    w x = K ((Rect.unit (s := S4736x176) off ![128, 176] inb).emb x) := by
  subst h
  have hx : x = (ix2 (x (0 : Fin 2)) (x (1 : Fin 2)) : S128x176.Idx) := by
    funext a; fin_cases a <;> rfl
  have he : (Rect.unit (s := S4736x176) ![128 * s.val, 0] ![128, 176] inb).emb x
      = (ix2 ⟨128 * s.val + (x (0 : Fin 2)).val, by have h : (x (0 : Fin 2)).val < 128 := (x (0 : Fin 2)).isLt; have := s.isLt; omega⟩
          (x (1 : Fin 2)) : S4736x176.Idx) := by
    funext a; apply Fin.ext; fin_cases a
    · show 128 * s.val + 1 * (x (0 : Fin 2)).val = 128 * s.val + (x (0 : Fin 2)).val; omega
    · show 0 + 1 * (x (1 : Fin 2)).val = (x (1 : Fin 2)).val; omega
  rw [he]
  exact (congrArg w hx).trans (hw _ _)

theorem cover_rows (off : Fin 2 → ℕ) (s : Fin 37) (h : off = ![128 * s.val, 0]) (inb) (y : S4736x176.Idx)
    (hy : (y 0).val / 128 = s.val) : y ∈ (Rect.unit (s := S4736x176) off ![128, 176] inb).set := by
  subst h
  rw [Rect.mem_set_unit]
  intro a
  fin_cases a
  · exact ⟨by show 128 * s.val ≤ (y 0).val; omega, by show (y 0).val < 128 * s.val + 128; omega⟩
  · exact ⟨Nat.zero_le _, by show (y 1).val < 0 + 176; have h : (y 1).val < 176 := (y 1).isLt; omega⟩

theorem KT_at (x : Vec F S1x1x11x36x8x128 .i32) (s : Fin 37) (t : Fin 36) (h : slot s = t) (a : Fin 160) (b : Fin 128) :
    kT (wordAt x t) (ix3 0 a b) = KT x (ix3 s a b) := by subst h; rfl

theorem VT_at (x : Vec F S1x1x11x36x8x128 .i32) (s : Fin 37) (t : Fin 36) (h : slot s = t) (a : Fin 160) (b : Fin 128) :
    vT (wordAt x t) (ix3 0 a b) = VT x (ix3 s a b) := by subst h; rfl

theorem KR_at (x : Vec F S1x1x11x36x8x128 .i32) (s : Fin 37) (t : Fin 36) (h : slot s = t) (a : Fin 128) (b : Fin 176) :
    krT (wordAt x t) (ix2 a b) = KR x (ix2 ⟨128 * s.val + a.val, by omega⟩ b) := by
  subst h
  unfold KR
  have h1 : (⟨(128 * s.val + a.val) / 128, by omega⟩ : Fin 37) = s := Fin.ext (by show (128 * s.val + a.val) / 128 = s.val; omega)
  have h2 : (⟨(128 * s.val + a.val) % 128, Nat.mod_lt _ (by decide)⟩ : Fin 128) = a :=
    Fin.ext (by show (128 * s.val + a.val) % 128 = a.val; omega)
  show krT (wordAt x (slot s)) (ix2 a b) = krT (wordAt x (slot ⟨(128 * s.val + a.val) / 128, _⟩)) (ix2 ⟨(128 * s.val + a.val) % 128, _⟩ b)
  rw [h1, h2]

/-! ## The first loop -/

variable (c : Dev nD) (i : grid0.Coords) (arg2 : Memref sig .tc .vmem S1x1x11x36x8x128 .i32) (harg2 : arg2.IsWhole)
  (arg3 : Memref sig .tc .vmem S1x1x10x36x16x128 .bf16) (harg3 : arg3.IsWhole)
  (arg4 : Memref sig .tc .vmem S37x160x128 .bf16) (harg4 : arg4.IsWhole)
  (arg5 : Memref sig .tc .vmem S4736x176 .bf16) (harg5 : arg5.IsWhole)
  (arg6 : Memref sig .tc .vmem S37x160x128 .bf16) (harg6 : arg6.IsWhole)
  (X2 : BufTy.Contents (Elt F) arg2.view.ty)

/-- The slot trip `k` of the first loop fills. -/
def slot1 (k : Fin k0_t1_loop.trips) : Fin 37 := (tile1 k).succ

theorem slot_slot1 (k : Fin k0_t1_loop.trips) : slot (slot1 k) = tile1 k := by
  unfold slot slot1
  rw [dif_neg (by simp)]
  exact Fin.ext (by simp)

/-- The pieces of the first `n` trips agree with the kept arrays and cover slots 1 … n. -/
theorem first (x : Vec F S1x1x11x36x8x128 .i32) (hx : arg2.view.read (Elt F) X2 = x) : ∀ n : ℕ, n ≤ 35 →
    ((∀ p ∈ (pb_k0_t1 (F := F) Variants.none c none i arg2 harg2 arg3 harg3 arg4 harg4 arg5 harg5 arg6 harg6 row16 X2 n).1,
        ∀ z : p.1.shape.Idx, p.2 z = KT x (p.1.emb z))
      ∧ (∀ p ∈ (pb_k0_t1 (F := F) Variants.none c none i arg2 harg2 arg3 harg3 arg4 harg4 arg5 harg5 arg6 harg6 row16 X2 n).2.1,
        ∀ z : p.1.shape.Idx, p.2 z = KR x (p.1.emb z))
      ∧ (∀ p ∈ (pb_k0_t1 (F := F) Variants.none c none i arg2 harg2 arg3 harg3 arg4 harg4 arg5 harg5 arg6 harg6 row16 X2 n).2.2,
        ∀ z : p.1.shape.Idx, p.2 z = VT x (p.1.emb z)))
    ∧ (∀ y : S37x160x128.Idx, 1 ≤ (y 0).val → (y 0).val ≤ n →
        (∃ p ∈ (pb_k0_t1 (F := F) Variants.none c none i arg2 harg2 arg3 harg3 arg4 harg4 arg5 harg5 arg6 harg6 row16 X2 n).1, y ∈ p.1.set)
        ∧ (∃ p ∈ (pb_k0_t1 (F := F) Variants.none c none i arg2 harg2 arg3 harg3 arg4 harg4 arg5 harg5 arg6 harg6 row16 X2 n).2.2, y ∈ p.1.set))
    ∧ (∀ y : S4736x176.Idx, 1 ≤ (y 0).val / 128 → (y 0).val / 128 ≤ n →
        ∃ p ∈ (pb_k0_t1 (F := F) Variants.none c none i arg2 harg2 arg3 harg3 arg4 harg4 arg5 harg5 arg6 harg6 row16 X2 n).2.1, y ∈ p.1.set)
  | 0, _ => by
    rw [pb_k0_t1.eq_1]
    refine ⟨⟨?_, ?_, ?_⟩, ?_, ?_⟩
    · intro p hp; exact absurd hp List.not_mem_nil
    · intro p hp; exact absurd hp List.not_mem_nil
    · intro p hp; exact absurd hp List.not_mem_nil
    · intro y h h'; omega
    · intro y h h'; omega
  | n + 1, hn => by
    obtain ⟨⟨hK, hR, hV⟩, hc, hc'⟩ := first x hx n (by omega)
    have hlt : n < k0_t1_loop.trips := by rw [trips1]; omega
    obtain ⟨k, hk⟩ : ∃ k : Fin k0_t1_loop.trips, k.val = n := ⟨⟨n, hlt⟩, rfl⟩
    have hs : (slot1 k).val = n + 1 := by show k.val + 1 = n + 1; rw [hk]
    have e12 : k0_off12 k = ![(slot1 k).val, 0, 0] := Gen.k0_off12_eq k
    have e13 : k0_off13 k = ![128 * (slot1 k).val, 0] := by
      rw [Gen.k0_off13_eq k]; show ![128 * k.val + 128, 0] = ![128 * (k.val + 1), 0]; rw [Nat.mul_add]
    have hpb := pb_k0_t1_succ (F := F) Variants.none c none i arg2 harg2 arg3 harg3 arg4 harg4 arg5 harg5 arg6 harg6 row16 X2 k
    rw [trip1, hx] at hpb
    rw [hk] at hpb
    rw [hpb]
    refine ⟨⟨?_, ?_, ?_⟩, ?_, ?_⟩
    · intro p hp
      rcases List.mem_cons.mp hp with rfl | hp
      · exact agree_slab _ (slot1 k) e12 (Gen.k0_off12_inb k) _ _ (KT_at x _ _ (slot_slot1 k))
      · exact hK p hp
    · intro p hp
      rcases List.mem_cons.mp hp with rfl | hp
      · exact agree_rows _ (slot1 k) e13 (Gen.k0_off13_inb k) _ _ (KR_at x _ _ (slot_slot1 k))
      · exact hR p hp
    · intro p hp
      rcases List.mem_cons.mp hp with rfl | hp
      · exact agree_slab _ (slot1 k) e12 (Gen.k0_off12_inb k) _ _ (VT_at x _ _ (slot_slot1 k))
      · exact hV p hp
    · intro y h h'
      by_cases hy : (y 0).val = n + 1
      · exact ⟨⟨_, List.mem_cons_self, cover_slab _ (slot1 k) e12 (Gen.k0_off12_inb k) y (hy.trans hs.symm)⟩,
          ⟨_, List.mem_cons_self, cover_slab _ (slot1 k) e12 (Gen.k0_off12_inb k) y (hy.trans hs.symm)⟩⟩
      · obtain ⟨⟨p, hp, hm⟩, ⟨q, hq, hm'⟩⟩ := hc y h (by omega)
        exact ⟨⟨p, List.mem_cons_of_mem _ hp, hm⟩, ⟨q, List.mem_cons_of_mem _ hq, hm'⟩⟩
    · intro y h h'
      by_cases hy : (y 0).val / 128 = n + 1
      · exact ⟨_, List.mem_cons_self, cover_rows _ (slot1 k) e13 (Gen.k0_off13_inb k) y (hy.trans hs.symm)⟩
      · obtain ⟨p, hp, hm⟩ := hc' y h (by omega)
        exact ⟨p, List.mem_cons_of_mem _ hp, hm⟩

/-- After the stores of the last tile and the first loop, the kept keys by feature. -/
theorem kept4 (x : Vec F S1x1x11x36x8x128 .i32) (hx : arg2.view.read (Elt F) X2 = x) (f : BufTy.Contents (Elt F) arg4.view.ty) (inb inb') :
    arg4.view.read (Elt F) (arg4.view.writes (Elt F) f
      ((pb_k0_t1 (F := F) Variants.none c none i arg2 harg2 arg3 harg3 arg4 harg4 arg5 harg5 arg6 harg6 row16 X2 35).1 ++
        [⟨Rect.unit ![36, 0, 0] ![1, 160, 128] inb, kT (wordAt x 35)⟩, ⟨Rect.unit ![0, 0, 0] ![1, 160, 128] inb', kT (wordAt x 35)⟩]))
      = KT x := by
  obtain ⟨⟨hK, hR, hV⟩, hc, hc'⟩ := first (F := F) c i arg2 harg2 arg3 harg3 arg4 harg4 arg5 harg5 arg6 harg6 X2 x hx 35 le_rfl
  funext y
  apply View.read_writes_apply_of_pieces
  · intro p hp
    rcases List.mem_append.mp hp with hp | hp
    · exact hK p hp
    · rcases List.mem_cons.mp hp with rfl | hp
      · exact agree_slab ![36, 0, 0] 36 rfl inb _ _ (KT_at x 36 35 rfl)
      · rcases List.mem_cons.mp hp with rfl | hp
        · exact agree_slab ![0, 0, 0] 0 rfl inb' _ _ (KT_at x 0 35 rfl)
        · exact absurd hp List.not_mem_nil
  · have hy : (y 0).val < 37 := (y 0).isLt
    by_cases h0 : (y 0).val = 0
    · exact ⟨_, List.mem_append_right _ (List.mem_cons_of_mem _ List.mem_cons_self), cover_slab ![0, 0, 0] 0 rfl inb' y h0⟩
    · by_cases h1 : (y 0).val = 36
      · exact ⟨_, List.mem_append_right _ List.mem_cons_self, cover_slab ![36, 0, 0] 36 rfl inb y h1⟩
      · obtain ⟨⟨p, hp, hm⟩, -⟩ := hc y (by omega) (by omega)
        exact ⟨p, List.mem_append_left _ hp, hm⟩

/-- … the kept values … -/
theorem kept6 (x : Vec F S1x1x11x36x8x128 .i32) (hx : arg2.view.read (Elt F) X2 = x) (f : BufTy.Contents (Elt F) arg6.view.ty) (inb inb') :
    arg6.view.read (Elt F) (arg6.view.writes (Elt F) f
      ((pb_k0_t1 (F := F) Variants.none c none i arg2 harg2 arg3 harg3 arg4 harg4 arg5 harg5 arg6 harg6 row16 X2 35).2.2 ++
        [⟨Rect.unit ![36, 0, 0] ![1, 160, 128] inb, vT (wordAt x 35)⟩, ⟨Rect.unit ![0, 0, 0] ![1, 160, 128] inb', vT (wordAt x 35)⟩]))
      = VT x := by
  obtain ⟨⟨hK, hR, hV⟩, hc, hc'⟩ := first (F := F) c i arg2 harg2 arg3 harg3 arg4 harg4 arg5 harg5 arg6 harg6 X2 x hx 35 le_rfl
  funext y
  apply View.read_writes_apply_of_pieces
  · intro p hp
    rcases List.mem_append.mp hp with hp | hp
    · exact hV p hp
    · rcases List.mem_cons.mp hp with rfl | hp
      · exact agree_slab ![36, 0, 0] 36 rfl inb _ _ (VT_at x 36 35 rfl)
      · rcases List.mem_cons.mp hp with rfl | hp
        · exact agree_slab ![0, 0, 0] 0 rfl inb' _ _ (VT_at x 0 35 rfl)
        · exact absurd hp List.not_mem_nil
  · have hy : (y 0).val < 37 := (y 0).isLt
    by_cases h0 : (y 0).val = 0
    · exact ⟨_, List.mem_append_right _ (List.mem_cons_of_mem _ List.mem_cons_self), cover_slab ![0, 0, 0] 0 rfl inb' y h0⟩
    · by_cases h1 : (y 0).val = 36
      · exact ⟨_, List.mem_append_right _ List.mem_cons_self, cover_slab ![36, 0, 0] 36 rfl inb y h1⟩
      · obtain ⟨-, ⟨p, hp, hm⟩⟩ := hc y (by omega) (by omega)
        exact ⟨p, List.mem_append_left _ hp, hm⟩

/-- … and the kept keys by token. -/
theorem kept5 (x : Vec F S1x1x11x36x8x128 .i32) (hx : arg2.view.read (Elt F) X2 = x) (f : BufTy.Contents (Elt F) arg5.view.ty) (inb inb') :
    arg5.view.read (Elt F) (arg5.view.writes (Elt F) f
      ((pb_k0_t1 (F := F) Variants.none c none i arg2 harg2 arg3 harg3 arg4 harg4 arg5 harg5 arg6 harg6 row16 X2 35).2.1 ++
        [⟨Rect.unit ![4608, 0] ![128, 176] inb, krT (wordAt x 35)⟩, ⟨Rect.unit ![0, 0] ![128, 176] inb', krT (wordAt x 35)⟩]))
      = KR x := by
  obtain ⟨⟨hK, hR, hV⟩, hc, hc'⟩ := first (F := F) c i arg2 harg2 arg3 harg3 arg4 harg4 arg5 harg5 arg6 harg6 X2 x hx 35 le_rfl
  funext y
  apply View.read_writes_apply_of_pieces
  · intro p hp
    rcases List.mem_append.mp hp with hp | hp
    · exact hR p hp
    · rcases List.mem_cons.mp hp with rfl | hp
      · exact agree_rows ![4608, 0] 36 rfl inb _ _ (KR_at x 36 35 rfl)
      · rcases List.mem_cons.mp hp with rfl | hp
        · exact agree_rows ![0, 0] 0 rfl inb' _ _ (KR_at x 0 35 rfl)
        · exact absurd hp List.not_mem_nil
  · have hy : (y 0).val < 4736 := (y 0).isLt
    by_cases h0 : (y 0).val / 128 = 0
    · exact ⟨_, List.mem_append_right _ (List.mem_cons_of_mem _ List.mem_cons_self), cover_rows ![0, 0] 0 rfl inb' y h0⟩
    · by_cases h1 : (y 0).val / 128 = 36
      · exact ⟨_, List.mem_append_right _ List.mem_cons_self, cover_rows ![4608, 0] 36 rfl inb y h1⟩
      · obtain ⟨p, hp, hm⟩ := hc' y (by omega) (by omega)
        exact ⟨p, List.mem_append_left _ hp, hm⟩

/-! ## The second loop -/

theorem agree_out (off : Fin 6 → ℕ) (p : Fin 36) (g : Fin 10) (h : off = ![0, 0, g.val, p.val, 0, 0]) (inb)
    (K : Vec F S1x1x10x36x16x128 .bf16) (w : Vec F S1x1x1x1x16x128 .bf16)
    (hw : ∀ (a : Fin 16) (b : Fin 128), w (ix6 0 0 0 0 a b) = K (ix6 0 0 g p a b)) (z) :
    w z = K ((Rect.unit (s := S1x1x10x36x16x128) off ![1, 1, 1, 1, 16, 128] inb).emb z) := by
  subst h
  have h0 : (z (0 : Fin 6)).val < 1 := (z (0 : Fin 6)).isLt
  have h1 : (z (1 : Fin 6)).val < 1 := (z (1 : Fin 6)).isLt
  have h2 : (z (2 : Fin 6)).val < 1 := (z (2 : Fin 6)).isLt
  have h3 : (z (3 : Fin 6)).val < 1 := (z (3 : Fin 6)).isLt
  have hx : z = (ix6 0 0 0 0 (z (4 : Fin 6)) (z (5 : Fin 6)) : S1x1x1x1x16x128.Idx) := by
    funext a; apply Fin.ext; fin_cases a
    · show (z (0 : Fin 6)).val = 0; omega
    · show (z (1 : Fin 6)).val = 0; omega
    · show (z (2 : Fin 6)).val = 0; omega
    · show (z (3 : Fin 6)).val = 0; omega
    · rfl
    · rfl
  have he : (Rect.unit (s := S1x1x10x36x16x128) ![0, 0, g.val, p.val, 0, 0] ![1, 1, 1, 1, 16, 128] inb).emb z
      = (ix6 0 0 g p (z (4 : Fin 6)) (z (5 : Fin 6)) : S1x1x10x36x16x128.Idx) := by
    funext a; apply Fin.ext; fin_cases a
    · show 0 + 1 * (z (0 : Fin 6)).val = 0; omega
    · show 0 + 1 * (z (1 : Fin 6)).val = 0; omega
    · show g.val + 1 * (z (2 : Fin 6)).val = g.val; omega
    · show p.val + 1 * (z (3 : Fin 6)).val = p.val; omega
    · show 0 + 1 * (z (4 : Fin 6)).val = (z (4 : Fin 6)).val; omega
    · show 0 + 1 * (z (5 : Fin 6)).val = (z (5 : Fin 6)).val; omega
  rw [he]
  exact (congrArg w hx).trans (hw _ _)

theorem cover_out (off : Fin 6 → ℕ) (p : Fin 36) (g : Fin 10) (h : off = ![0, 0, g.val, p.val, 0, 0]) (inb)
    (y : S1x1x10x36x16x128.Idx) (hg : (y 2).val = g.val) (hp : (y 3).val = p.val) :
    y ∈ (Rect.unit (s := S1x1x10x36x16x128) off ![1, 1, 1, 1, 16, 128] inb).set := by
  subst h
  rw [Rect.mem_set_unit]
  have h0 : (y 0).val < 1 := (y 0).isLt
  have h1 : (y 1).val < 1 := (y 1).isLt
  have h4 : (y 4).val < 16 := (y 4).isLt
  have h5 : (y 5).val < 128 := (y 5).isLt
  intro a
  fin_cases a
  · exact ⟨Nat.zero_le _, by show (y 0).val < 0 + 1; omega⟩
  · exact ⟨Nat.zero_le _, by show (y 1).val < 0 + 1; omega⟩
  · exact ⟨le_of_eq hg.symm, by show (y 2).val < g.val + 1; omega⟩
  · exact ⟨le_of_eq hp.symm, by show (y 3).val < p.val + 1; omega⟩
  · exact ⟨Nat.zero_le _, by show (y 4).val < 0 + 16; omega⟩
  · exact ⟨Nat.zero_le _, by show (y 5).val < 0 + 128; omega⟩

/-- The stored row `a` of group `g` of the results of tile `p`. -/
theorem outG_at (x : Vec F S1x1x11x36x8x128 .i32) (p : Fin 36) (g : Fin 10) (a : Fin 16) (b : Fin 128) (r : Fin 160)
    (hr : r.val = 16 * g.val + a.val) : oT x p (ix2 r b) = outG x (ix6 0 0 g p a b) := by
  have e : r = ⟨16 * g.val + a.val, by omega⟩ := Fin.ext hr
  rw [e]
  rfl

theorem group0 (x : Vec F S1x1x11x36x8x128 .i32) (p : Fin 36) (a : Fin 16) (b : Fin 128) :
    k0_pay21 (extractStridedSlice S16x128 ![0, 0] (oT x p) slices_S160x128_o0_0_S16x128) (ix6 0 0 0 0 a b) = outG x (ix6 0 0 0 p a b) := by
  pointwise [k0_pay21]
  exact outG_at x p 0 a b _ (by show a.val = 16 * 0 + a.val; omega)

theorem group1 (x : Vec F S1x1x11x36x8x128 .i32) (p : Fin 36) (a : Fin 16) (b : Fin 128) :
    k0_pay22 (oT x p) (ix6 0 0 0 0 a b) = outG x (ix6 0 0 1 p a b) := by
  pointwise [k0_pay22]
  exact outG_at x p 1 a b _ rfl

theorem group2 (x : Vec F S1x1x11x36x8x128 .i32) (p : Fin 36) (a : Fin 16) (b : Fin 128) :
    k0_pay23 (oT x p) (ix6 0 0 0 0 a b) = outG x (ix6 0 0 2 p a b) := by
  pointwise [k0_pay23]
  exact outG_at x p 2 a b _ rfl

theorem group3 (x : Vec F S1x1x11x36x8x128 .i32) (p : Fin 36) (a : Fin 16) (b : Fin 128) :
    k0_pay24 (oT x p) (ix6 0 0 0 0 a b) = outG x (ix6 0 0 3 p a b) := by
  pointwise [k0_pay24]
  exact outG_at x p 3 a b _ rfl

theorem group4 (x : Vec F S1x1x11x36x8x128 .i32) (p : Fin 36) (a : Fin 16) (b : Fin 128) :
    k0_pay25 (oT x p) (ix6 0 0 0 0 a b) = outG x (ix6 0 0 4 p a b) := by
  pointwise [k0_pay25]
  exact outG_at x p 4 a b _ rfl

theorem group5 (x : Vec F S1x1x11x36x8x128 .i32) (p : Fin 36) (a : Fin 16) (b : Fin 128) :
    k0_pay26 (oT x p) (ix6 0 0 0 0 a b) = outG x (ix6 0 0 5 p a b) := by
  pointwise [k0_pay26]
  exact outG_at x p 5 a b _ rfl

theorem group6 (x : Vec F S1x1x11x36x8x128 .i32) (p : Fin 36) (a : Fin 16) (b : Fin 128) :
    k0_pay62 (k0_pay27 (oT x p)) (ix6 0 0 0 0 a b) = outG x (ix6 0 0 6 p a b) := by
  pointwise [k0_pay62, k0_pay27]
  exact outG_at x p 6 a b _ rfl

theorem group7 (x : Vec F S1x1x11x36x8x128 .i32) (p : Fin 36) (a : Fin 16) (b : Fin 128) :
    k0_pay63 (oT x p) (ix6 0 0 0 0 a b) = outG x (ix6 0 0 7 p a b) := by
  pointwise [k0_pay63]
  exact outG_at x p 7 a b _ rfl

theorem group8 (x : Vec F S1x1x11x36x8x128 .i32) (p : Fin 36) (a : Fin 16) (b : Fin 128) :
    k0_pay64 (oT x p) (ix6 0 0 0 0 a b) = outG x (ix6 0 0 8 p a b) := by
  pointwise [k0_pay64]
  exact outG_at x p 8 a b _ rfl

theorem group9 (x : Vec F S1x1x11x36x8x128 .i32) (p : Fin 36) (a : Fin 16) (b : Fin 128) :
    k0_pay65 (oT x p) (ix6 0 0 0 0 a b) = outG x (ix6 0 0 9 p a b) := by
  pointwise [k0_pay65]
  exact outG_at x p 9 a b _ rfl

variable (X4 : BufTy.Contents (Elt F) arg4.view.ty) (X5 : BufTy.Contents (Elt F) arg5.view.ty)
  (X6 : BufTy.Contents (Elt F) arg6.view.ty)

/-- The pieces of the first `n` trips agree with the result block and cover tiles 0 … n - 1. -/
theorem second (x : Vec F S1x1x11x36x8x128 .i32) (h2 : arg2.view.read (Elt F) X2 = x)
    (h4 : arg4.view.read (Elt F) X4 = KT x) (h5 : arg5.view.read (Elt F) X5 = KR x) (h6 : arg6.view.read (Elt F) X6 = VT x) :
    ∀ n : ℕ, n ≤ 36 →
    (∀ p ∈ pb_k0_t2 (F := F) Variants.none c none i arg2 harg2 arg3 harg3 arg4 harg4 arg5 harg5 arg6 harg6
        (iota .tc S64x128 32 [1] iota_S64x128_d1_w32) (iota .tc S64x128 32 [0] iota_S64x128_d0_w32) k0_pay28 k0_pay29
        k0_pay30 k0_pay31 k0_pay32 X2 X4 X5 X6 n, ∀ z : p.1.shape.Idx, p.2 z = outG x (p.1.emb z))
    ∧ (∀ y : S1x1x10x36x16x128.Idx, (y 3).val < n →
      ∃ p ∈ pb_k0_t2 (F := F) Variants.none c none i arg2 harg2 arg3 harg3 arg4 harg4 arg5 harg5 arg6 harg6
        (iota .tc S64x128 32 [1] iota_S64x128_d1_w32) (iota .tc S64x128 32 [0] iota_S64x128_d0_w32) k0_pay28 k0_pay29
        k0_pay30 k0_pay31 k0_pay32 X2 X4 X5 X6 n, y ∈ p.1.set)
  | 0, _ => by
    rw [pb_k0_t2.eq_1]
    exact ⟨fun p hp => absurd hp List.not_mem_nil, fun y h => absurd h (Nat.not_lt_zero _)⟩
  | n + 1, hn => by
    obtain ⟨hA, hC⟩ := second x h2 h4 h5 h6 n (by omega)
    have hlt : n < k0_t2_loop.trips := by rw [trips2]; omega
    obtain ⟨k, hk⟩ : ∃ k : Fin k0_t2_loop.trips, k.val = n := ⟨⟨n, hlt⟩, rfl⟩
    have hpb := pb_k0_t2_succ (F := F) Variants.none c none i arg2 harg2 arg3 harg3 arg4 harg4 arg5 harg5 arg6 harg6
        (iota .tc S64x128 32 [1] iota_S64x128_d1_w32) (iota .tc S64x128 32 [0] iota_S64x128_d0_w32) k0_pay28 k0_pay29
        k0_pay30 k0_pay31 k0_pay32 X2 X4 X5 X6 k
    rw [trip2 (F := F) c i arg2 harg2 arg3 harg3 arg4 harg4 arg5 harg5 arg6 harg6 X2 X4 X5 X6 k x h2 h4 h5 h6] at hpb
    rw [hk] at hpb
    rw [hpb]
    refine ⟨fun p hp => ?_, fun y h => ?_⟩
    · simp only [List.cons_append, List.nil_append, List.mem_cons] at hp
      rcases hp with rfl | rfl | rfl | rfl | rfl | rfl | rfl | rfl | rfl | rfl | hp
      · exact agree_out _ (tile2 k) 9 (Gen.k0_off27_eq k) (Gen.k0_off27_inb k) _ _ (group9 x (tile2 k))
      · exact agree_out _ (tile2 k) 8 (Gen.k0_off26_eq k) (Gen.k0_off26_inb k) _ _ (group8 x (tile2 k))
      · exact agree_out _ (tile2 k) 7 (Gen.k0_off25_eq k) (Gen.k0_off25_inb k) _ _ (group7 x (tile2 k))
      · exact agree_out _ (tile2 k) 6 (Gen.k0_off24_eq k) (Gen.k0_off24_inb k) _ _ (group6 x (tile2 k))
      · exact agree_out _ (tile2 k) 5 (Gen.k0_off23_eq k) (Gen.k0_off23_inb k) _ _ (group5 x (tile2 k))
      · exact agree_out _ (tile2 k) 4 (Gen.k0_off22_eq k) (Gen.k0_off22_inb k) _ _ (group4 x (tile2 k))
      · exact agree_out _ (tile2 k) 3 (Gen.k0_off21_eq k) (Gen.k0_off21_inb k) _ _ (group3 x (tile2 k))
      · exact agree_out _ (tile2 k) 2 (Gen.k0_off20_eq k) (Gen.k0_off20_inb k) _ _ (group2 x (tile2 k))
      · exact agree_out _ (tile2 k) 1 (Gen.k0_off19_eq k) (Gen.k0_off19_inb k) _ _ (group1 x (tile2 k))
      · exact agree_out _ (tile2 k) 0 (Gen.k0_off18_eq k) (Gen.k0_off18_inb k) _ _ (group0 x (tile2 k))
      · exact hA p hp
    · by_cases hy : (y 3).val = n
      · have hp : (y 3).val = (tile2 k).val := hy.trans hk.symm
        have hg : (y 2).val < 10 := (y 2).isLt
        obtain ⟨g, hg'⟩ : ∃ g : Fin 10, (y 2).val = g.val := ⟨⟨_, hg⟩, rfl⟩
        simp only [List.cons_append, List.nil_append]
        fin_cases g
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), cover_out _ (tile2 k) 0 (Gen.k0_off18_eq k) (Gen.k0_off18_inb k) y hg' hp⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), cover_out _ (tile2 k) 1 (Gen.k0_off19_eq k) (Gen.k0_off19_inb k) y hg' hp⟩
        · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), cover_out _ (tile2 k) 2 (Gen.k0_off20_eq k) (Gen.k0_off20_inb k) y hg' hp⟩
        · exact ⟨_, List.mem_cons_of_mem _ (List.mem_cons_of_mem _ (List.mem_cons_of_mem _ (List.mem_cons_of_mem _ (List.mem_cons_of_mem _ (List.mem_cons_of_mem _ List.mem_cons_self))))), cover_out _ (tile2 k) 3 (Gen.k0_off21_eq k) (Gen.k0_off21_inb k) y hg' hp⟩
        · exact ⟨_, List.mem_cons_of_mem _ (List.mem_cons_of_mem _ (List.mem_cons_of_mem _ (List.mem_cons_of_mem _ (List.mem_cons_of_mem _ List.mem_cons_self)))), cover_out _ (tile2 k) 4 (Gen.k0_off22_eq k) (Gen.k0_off22_inb k) y hg' hp⟩
        · exact ⟨_, List.mem_cons_of_mem _ (List.mem_cons_of_mem _ (List.mem_cons_of_mem _ (List.mem_cons_of_mem _ List.mem_cons_self))), cover_out _ (tile2 k) 5 (Gen.k0_off23_eq k) (Gen.k0_off23_inb k) y hg' hp⟩
        · exact ⟨_, List.mem_cons_of_mem _ (List.mem_cons_of_mem _ (List.mem_cons_of_mem _ List.mem_cons_self)), cover_out _ (tile2 k) 6 (Gen.k0_off24_eq k) (Gen.k0_off24_inb k) y hg' hp⟩
        · exact ⟨_, List.mem_cons_of_mem _ (List.mem_cons_of_mem _ List.mem_cons_self), cover_out _ (tile2 k) 7 (Gen.k0_off25_eq k) (Gen.k0_off25_inb k) y hg' hp⟩
        · exact ⟨_, List.mem_cons_of_mem _ List.mem_cons_self, cover_out _ (tile2 k) 8 (Gen.k0_off26_eq k) (Gen.k0_off26_inb k) y hg' hp⟩
        · exact ⟨_, List.mem_cons_self, cover_out _ (tile2 k) 9 (Gen.k0_off27_eq k) (Gen.k0_off27_inb k) y hg' hp⟩
      · obtain ⟨p, hp, hm⟩ := hC y (by omega)
        exact ⟨p, List.mem_append_right _ hp, hm⟩

/-- After the second loop, the result block. -/
theorem stored (x : Vec F S1x1x11x36x8x128 .i32) (h2 : arg2.view.read (Elt F) X2 = x)
    (h4 : arg4.view.read (Elt F) X4 = KT x) (h5 : arg5.view.read (Elt F) X5 = KR x) (h6 : arg6.view.read (Elt F) X6 = VT x)
    (f : BufTy.Contents (Elt F) arg3.view.ty) :
    arg3.view.read (Elt F) (arg3.view.writes (Elt F) f
      (pb_k0_t2 (F := F) Variants.none c none i arg2 harg2 arg3 harg3 arg4 harg4 arg5 harg5 arg6 harg6
        (iota .tc S64x128 32 [1] iota_S64x128_d1_w32) (iota .tc S64x128 32 [0] iota_S64x128_d0_w32) k0_pay28 k0_pay29
        k0_pay30 k0_pay31 k0_pay32 X2 X4 X5 X6 36)) = outG x := by
  obtain ⟨hA, hC⟩ := second (F := F) c i arg2 harg2 arg3 harg3 arg4 harg4 arg5 harg5 arg6 harg6 X2 X4 X5 X6 x h2 h4 h5 h6 36 le_rfl
  funext y
  exact View.read_writes_apply_of_pieces arg3.view f _ _ hA y (hC y (y 3).isLt)

end Cert.KernelIdeal.Hand

end
-- ==== Proof.KernelIdealFrame.lean ====
/- The run of the idealized kernel, with its value: it terminates without fault, leaves its argument as it was, and
   every semaphore counter ends at zero; the result array ends holding `outG` of each head's packed words. -/
module

public import proofs.«01_k».proof.Proof.Kept
public import proofs.«01_k».proof.Proof.Gen.KernelIdeal.Launch
public import proofs.«01_k».proof.Proof.Gen.KernelIdeal.Points
public import Idealize.ShloMosaic.Lib.Claim
public import Idealize.ShloMosaic.Lib.Pipeline.FrameBody
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from the run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The kernel body on any staging memrefs -/

/-- Each window's current staging memref at point `t`, spelled as the pipeline passes it (`bodyAt0`), and its wholeness. -/
abbrev ms0_0 (t : Fin cfg0.N) : Memref sig .tc .vmem S1x1x11x36x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x10x36x16x128 .bf16 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S37x160x128 .bf16 := Memref.whole cc0_scratch0
abbrev scM0_1 : Memref sig .tc .vmem S4736x176 .bf16 := Memref.whole cc0_scratch1
abbrev scM0_2 : Memref sig .tc .vmem S37x160x128 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 1000000 in
/-- The body on whole staging memrefs: the input at its contents `x0`, everything else at anything; it ends with the
    input as it was and the result at `outG x0`. -/
theorem kernelRun0_A (c : Dev nD) (i : grid0.Coords) (arg2 : Memref sig .tc .vmem S1x1x11x36x8x128 .i32) (harg2 : arg2.IsWhole) (arg3 : Memref sig .tc .vmem S1x1x10x36x16x128 .bf16) (harg3 : arg3.IsWhole) (arg4 : Memref sig .tc .vmem S37x160x128 .bf16) (harg4 : arg4.IsWhole) (arg5 : Memref sig .tc .vmem S4736x176 .bf16) (harg5 : arg5.IsWhole) (arg6 : Memref sig .tc .vmem S37x160x128 .bf16) (harg6 : arg6.IsWhole)
    (x0 : Vec F S1x1x11x36x8x128 .i32) :
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare (outG x0) ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_attn i arg2 harg2 arg3 harg3 arg4 harg4 arg5 harg5 arg6 harg6) K := by
    intro E K
    simp only [cc0_attn_eq_skeleton]; unfold cc0_attn_skel
    simp only [k0_part11_eq_skeleton, k0_part7_eq_skeleton, k0_part8_eq_skeleton, k0_part9_eq_skeleton, k0_part10_eq_skeleton]
    unfold owns
    iintro ⟨⟨%f0, %hf0, H0⟩, ⟨%d1, %f1, -, H1⟩, ⟨%ds0, %fs0, -, HS0⟩, ⟨%ds1, %fs1, -, HS1⟩, ⟨%ds2, %fs2, -, HS2⟩, Hk⟩
    obtain rfl := harg2.eq_unread hf0
    sl_exec
    sl_step
    iapply Hk
    isplitl [H0]
    · iexists _; isplitr; · ipureintro; exact harg2.read_unread _
      iexact H0
    isplitl [H1]
    · iexists _; isplitr; swap; · iexact H1
      ipureintro
      have e10 := readAt_word (F := F) arg2.view (harg2.unread x0) ![0, 0, 10, 35, 0, 0] 35 10 rfl inb_S1x1x11x36x8x128_S1x1x1x1x8x128_0_0_10_35_0_0
      rw [harg2.read_unread] at e10
      have e0 := readAt_word (F := F) arg2.view (harg2.unread x0) ![0, 0, 0, 35, 0, 0] 35 0 rfl inb_S1x1x11x36x8x128_S1x1x1x1x8x128_0_0_0_35_0_0
      rw [harg2.read_unread] at e0
      have e1 := readAt_word (F := F) arg2.view (harg2.unread x0) ![0, 0, 1, 35, 0, 0] 35 1 rfl inb_S1x1x11x36x8x128_S1x1x1x1x8x128_0_0_1_35_0_0
      rw [harg2.read_unread] at e1
      have e2 := readAt_word (F := F) arg2.view (harg2.unread x0) ![0, 0, 2, 35, 0, 0] 35 2 rfl inb_S1x1x11x36x8x128_S1x1x1x1x8x128_0_0_2_35_0_0
      rw [harg2.read_unread] at e2
      have e3 := readAt_word (F := F) arg2.view (harg2.unread x0) ![0, 0, 3, 35, 0, 0] 35 3 rfl inb_S1x1x11x36x8x128_S1x1x1x1x8x128_0_0_3_35_0_0
      rw [harg2.read_unread] at e3
      have e4 := readAt_word (F := F) arg2.view (harg2.unread x0) ![0, 0, 4, 35, 0, 0] 35 4 rfl inb_S1x1x11x36x8x128_S1x1x1x1x8x128_0_0_4_35_0_0
      rw [harg2.read_unread] at e4
      have e5 := readAt_word (F := F) arg2.view (harg2.unread x0) ![0, 0, 5, 35, 0, 0] 35 5 rfl inb_S1x1x11x36x8x128_S1x1x1x1x8x128_0_0_5_35_0_0
      rw [harg2.read_unread] at e5
      have e6 := readAt_word (F := F) arg2.view (harg2.unread x0) ![0, 0, 6, 35, 0, 0] 35 6 rfl inb_S1x1x11x36x8x128_S1x1x1x1x8x128_0_0_6_35_0_0
      rw [harg2.read_unread] at e6
      have e7 := readAt_word (F := F) arg2.view (harg2.unread x0) ![0, 0, 7, 35, 0, 0] 35 7 rfl inb_S1x1x11x36x8x128_S1x1x1x1x8x128_0_0_7_35_0_0
      rw [harg2.read_unread] at e7
      have e8 := readAt_word (F := F) arg2.view (harg2.unread x0) ![0, 0, 8, 35, 0, 0] 35 8 rfl inb_S1x1x11x36x8x128_S1x1x1x1x8x128_0_0_8_35_0_0
      rw [harg2.read_unread] at e8
      have e9 := readAt_word (F := F) arg2.view (harg2.unread x0) ![0, 0, 9, 35, 0, 0] 35 9 rfl inb_S1x1x11x36x8x128_S1x1x1x1x8x128_0_0_9_35_0_0
      rw [harg2.read_unread] at e9
      have k4 := kept4 (F := F) c i arg2 harg2 arg3 harg3 arg4 harg4 arg5 harg5 arg6 harg6 (harg2.unread x0) x0
        (harg2.read_unread _) fs0 inb_S37x160x128_S1x160x128_36_0_0 inb_S37x160x128_S1x160x128_0_0_0
      have k5 := kept5 (F := F) c i arg2 harg2 arg3 harg3 arg4 harg4 arg5 harg5 arg6 harg6 (harg2.unread x0) x0
        (harg2.read_unread _) fs1 inb_S4736x176_S128x176_4608_0 inb_S4736x176_S128x176_0_0
      have k6 := kept6 (F := F) c i arg2 harg2 arg3 harg3 arg4 harg4 arg5 harg5 arg6 harg6 (harg2.unread x0) x0
        (harg2.read_unread _) fs2 inb_S37x160x128_S1x160x128_36_0_0 inb_S37x160x128_S1x160x128_0_0_0
      unfold kT at k4
      unfold krT at k5
      unfold vT at k6
      rw [← e10, ← e0, ← e1, ← e2, ← e3, ← e4] at k4 k5
      rw [← e10, ← e5, ← e6, ← e7, ← e8, ← e9] at k6
      exact stored (F := F) c i arg2 harg2 arg3 harg3 arg4 harg4 arg5 harg5 arg6 harg6 (harg2.unread x0) _ _ _ x0
        (harg2.read_unread _) k4 k5 k6 f1
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The proof data of the one pipeline on core `c`: the arrays as the region finds them (`V`); after the body at
    point `t` each input's buffer at its block and the output's at `outG` of the input's block; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outG (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = outG (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨⟨HS0, HS1, HS2⟩, Hg⟩, Ho, ⟨%d0, H0⟩, ⟨%d1, H1⟩⟩
  iapply ((kernelRun0_A c (grid0.coords t) _ _ _ _ _ _ _ _ _ _ (iblk m c 0 t)) Set.univ _)
  isplitl [H0]; · iexact H0
  isplitl [H1]; · iexists _; iexact H1
  isplitl [HS0]; · iexact HS0
  isplitl [HS1]; · iexact HS1
  isplitl [HS2]; · iexact HS2
  iintro ⟨H0, H1, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-! ## What the result array holds -/

/-- The packed words of head `(b, h)`. -/
def headWords (x : Vec F S12x10x11x36x8x128 .i32) (b : Fin 12) (h : Fin 10) : Vec F S1x1x11x36x8x128 .i32 :=
  fun y => x (ix6 b h (y 2) (y 3) (y 4) (y 5))

/-- The whole result, from the whole argument. -/
def result (x : Vec F S12x10x11x36x8x128 .i32) : Vec F S12x10x10x36x16x128 .bf16 :=
  fun i => outG (headWords x (i 0) (i 1)) (ix6 0 0 (i 2) (i 3) (i 4) (i 5))

theorem index0 (t : Fin cfg0.N) : win0_0.index t 0 = (grid0.coords t 0).val ∧ win0_0.index t 1 = (grid0.coords t 1).val ∧
    win0_0.index t 2 = 0 ∧ win0_0.index t 3 = 0 ∧ win0_0.index t 4 = 0 ∧ win0_0.index t 5 = 0 :=
  (by decide +kernel : ∀ t : Fin grid0.N, win0_0.index t 0 = (grid0.coords t 0).val ∧ win0_0.index t 1 = (grid0.coords t 1).val ∧
    win0_0.index t 2 = 0 ∧ win0_0.index t 3 = 0 ∧ win0_0.index t 4 = 0 ∧ win0_0.index t 5 = 0) t

theorem index1 (t : Fin cfg0.N) : win0_1.index t 0 = (grid0.coords t 0).val ∧ win0_1.index t 1 = (grid0.coords t 1).val ∧
    win0_1.index t 2 = 0 ∧ win0_1.index t 3 = 0 ∧ win0_1.index t 4 = 0 ∧ win0_1.index t 5 = 0 :=
  (by decide +kernel : ∀ t : Fin grid0.N, win0_1.index t 0 = (grid0.coords t 0).val ∧ win0_1.index t 1 = (grid0.coords t 1).val ∧
    win0_1.index t 2 = 0 ∧ win0_1.index t 3 = 0 ∧ win0_1.index t 4 = 0 ∧ win0_1.index t 5 = 0) t

theorem final1 (c : Dev nD) : (dats m 0 c).arrAt 1 cfg0.N = result (V m c main_arg0) := by
  refine (dats m 0 c).arrAt_eq_of_covers 1 _ (by decide +kernel) fun t hf y => ?_
  blk_simp
  rw [after0_1]
  have hy0 : (y (0 : Fin 6)).val < 1 := (y (0 : Fin 6)).isLt
  have hy1 : (y (1 : Fin 6)).val < 1 := (y (1 : Fin 6)).isLt
  have e0 := (win0_1.rect_emb_val t y 0).trans (congrArg (· * 1 + (y (0 : Fin 6)).val) (index1 t).1)
  have e1 := (win0_1.rect_emb_val t y 1).trans (congrArg (· * 1 + (y (1 : Fin 6)).val) (index1 t).2.1)
  have e2 := win0_1.rect_emb_val_of_index_zero t 2 (index1 t).2.2.1 y
  have e3 := win0_1.rect_emb_val_of_index_zero t 3 (index1 t).2.2.2.1 y
  have e4 := win0_1.rect_emb_val_of_index_zero t 4 (index1 t).2.2.2.2.1 y
  have e5 := win0_1.rect_emb_val_of_index_zero t 5 (index1 t).2.2.2.2.2 y
  have hin : iblk m c 0 t = headWords (V m c main_arg0) ((win0_1.rect t).emb y 0) ((win0_1.rect t).emb y 1) := by
    funext z
    have hz0 : (z (0 : Fin 6)).val < 1 := (z (0 : Fin 6)).isLt
    have hz1 : (z (1 : Fin 6)).val < 1 := (z (1 : Fin 6)).isLt
    have f0 := (win0_0.rect_emb_val t z 0).trans (congrArg (· * 1 + (z (0 : Fin 6)).val) (index0 t).1)
    have f1 := (win0_0.rect_emb_val t z 1).trans (congrArg (· * 1 + (z (1 : Fin 6)).val) (index0 t).2.1)
    have f2 := win0_0.rect_emb_val_of_index_zero t 2 (index0 t).2.2.1 z
    have f3 := win0_0.rect_emb_val_of_index_zero t 3 (index0 t).2.2.2.1 z
    have f4 := win0_0.rect_emb_val_of_index_zero t 4 (index0 t).2.2.2.2.1 z
    have f5 := win0_0.rect_emb_val_of_index_zero t 5 (index0 t).2.2.2.2.2 z
    show V m c main_arg0 ((win0_0.rect t).emb z) = V m c main_arg0 (ix6 _ _ _ _ _ _)
    congr 1
    funext a
    apply Fin.ext
    fin_cases a
    · exact f0.trans ((by simp only []; omega : _ = _).trans e0.symm)
    · exact f1.trans ((by simp only []; omega : _ = _).trans e1.symm)
    · exact f2
    · exact f3
    · exact f4
    · exact f5
  rw [hin]
  show outG _ y = outG (headWords (V m c main_arg0) ((win0_1.rect t).emb y 0) ((win0_1.rect t).emb y 1)) (ix6 _ _ _ _ _ _)
  congr 1
  funext a
  apply Fin.ext
  fin_cases a
  · show (y (0 : Fin 6)).val = 0; omega
  · show (y (1 : Fin 6)).val = 0; omega
  · exact e2.symm
  · exact e3.symm
  · exact e4.symm
  · exact e5.symm

/-- The run: the result array ends at `result` of the argument, which is unchanged. -/
theorem run_value : θ_run defs (onTc (τ := τ) (main (F := F))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨((h c).1 1).trans (final1 m c),
      ((h c).1 0).trans (((dats m 0 c).arrAt_in 0 rfl _).trans ((A_eq m c 0).trans (V_main_arg0 m c)))⟩)
    (run_main m ρ)

end Cert.KernelIdeal.Hand

end
-- ==== Proof.Codes.lean ====
/- The packed words of one head, read: four fp8 codes to a word, a token's scales as f32 bit patterns, and where its
   bucket starts. Token `128 t + l` lies in lane `l` of tile `t`. -/
module

public import Idealize.ShloMosaic.PureOps.Ideal
public import Idealize.ShloMosaic.Lib.BitcastPair
public import Idealize.ShloMosaic.Lib.Pointwise

@[expose] public section

noncomputable section

namespace Cert.Head

open Idealize.ShloMosaic

/-! ## Bytes of a word -/

/-- The fp8 code in byte `i` of a word. -/
def code (w : BitVec 32) (i : ℕ) : EReal := Ideal.ofBits .fp8e4m3 (w.extractLsb' (8 * i) 8)

/-- The f32 value of a word. -/
def fl (w : BitVec 32) : EReal := Ideal.ofBits .f32 w

theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- Words read as bytes, at rank 2: row `a` is byte `a % 4` of word row `a / 4`. -/
theorem bitcast_32_8_ix2 {R r n : ℕ} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  rw [bitcast_32_8 x h]
  have hr : (⟨2, ![R, n]⟩ : Shape).row (ix2 a l) = a.val := rfl
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- … and at rank 6. -/
theorem bitcast_32_8_ix6 {n0 n1 n2 n3 R r n : ℕ} (x : (⟨6, ![n0, n1, n2, n3, r, n]⟩ : Shape).Idx → BitVec 32)
    (h : (⟨6, ![n0, n1, n2, n3, r, n]⟩ : Shape).Bitcasts 32 ⟨6, ![n0, n1, n2, n3, R, n]⟩ 8) (i0 : Fin n0) (i1 : Fin n1) (i2 : Fin n2) (i3 : Fin n3)
    (a : Fin R) (l : Fin n) (p : Fin r) (hp : p.val = a.val / 4) :
    bitcast ⟨6, ![n0, n1, n2, n3, R, n]⟩ 8 x h (ix6 i0 i1 i2 i3 a l) = (x (ix6 i0 i1 i2 i3 p l)).extractLsb' (8 * (a.val % 4)) 8 := by
  rw [bitcast_32_8 x h]
  have hr : (⟨6, ![n0, n1, n2, n3, R, n]⟩ : Shape).row (ix6 i0 i1 i2 i3 a l) = a.val := rfl
  congr 2
  funext c
  match c with
  | ⟨0, _⟩ => exact Fin.ext (h.srcIdx_other _ _ _ ⟨0, by omega⟩ (by show ¬ 0 + 2 = 6; omega))
  | ⟨1, _⟩ => exact Fin.ext (h.srcIdx_other _ _ _ ⟨1, by omega⟩ (by show ¬ 1 + 2 = 6; omega))
  | ⟨2, _⟩ => exact Fin.ext (h.srcIdx_other _ _ _ ⟨2, by omega⟩ (by show ¬ 2 + 2 = 6; omega))
  | ⟨3, _⟩ => exact Fin.ext (h.srcIdx_other _ _ _ ⟨3, by omega⟩ (by show ¬ 3 + 2 = 6; omega))
  | ⟨4, _⟩ => exact Fin.ext ((h.srcIdx_row _ _ _ ⟨4, by omega⟩ rfl).trans hp.symm)
  | ⟨5, _⟩ => exact Fin.ext (h.srcIdx_other _ _ _ ⟨5, by omega⟩ (by show ¬ 5 + 2 = 6; omega))

/-- A code that is not the NaN is a real number. -/
theorem code_real (w : BitVec 32) (i : ℕ) (h : ¬ ((w.extractLsb' (8 * i) 8).extractLsb' 3 4 = 15#4 ∧ (w.extractLsb' (8 * i) 8).extractLsb' 0 3 = 7#3)) :
    ∃ r : ℝ, code w i = (r : EReal) := by
  unfold code Ideal.ofBits Ideal.e4m3fn
  dsimp only
  rw [if_neg]
  · split
    · exact ⟨_, rfl⟩
    · exact ⟨_, rfl⟩
  · rintro ⟨h1, h2⟩
    exact h ⟨BitVec.eq_of_toNat_eq h1, BitVec.eq_of_toNat_eq h2⟩

/-- A word whose exponent field is not all ones is a real number. -/
theorem fl_real (w : BitVec 32) (h : w.extractLsb' 23 8 ≠ 255#8) : ∃ r : ℝ, fl w = (r : EReal) := by
  unfold fl Ideal.ofBits Ideal.ieee
  dsimp only
  rw [if_neg]
  · split
    · exact ⟨_, rfl⟩
    · exact ⟨_, rfl⟩
  · intro h1
    exact h (BitVec.eq_of_toNat_eq (by rw [h1]; rfl))

theorem exponent_of_mask (w : BitVec 32) (h : IntOp.andi w 2139095040#32 ≠ 2139095040#32) : w.extractLsb' 23 8 ≠ 255#8 := by
  intro e
  apply h
  apply BitVec.eq_of_getLsbD_eq
  intro k hk
  have eb : ∀ q, q < 8 → w.getLsbD (23 + q) = true := by
    intro q hq
    have := congrArg (fun b : BitVec 8 => b.getLsbD q) e
    simp only [BitVec.getLsbD_extractLsb'] at this
    rw [show decide (q < 8) = true by simp [hq], Bool.true_and] at this
    rw [this]
    interval_cases q <;> rfl
  have hm : (2139095040#32 : BitVec 32).getLsbD k = decide (23 ≤ k ∧ k < 31) := by
    interval_cases k <;> rfl
  simp only [IntOp.andi, BitVec.getLsbD_and, hm]
  by_cases hc : 23 ≤ k ∧ k < 31
  · have := eb (k - 23) (by omega)
    rw [show 23 + (k - 23) = k by omega] at this
    simp [this]
  · simp [hc]

theorem nan_of_mask (w : BitVec 32) (i : ℕ) (hi : i < 4) (m : BitVec 32) (hm : m = 127#32 <<< (8 * i)) (h : IntOp.andi w m ≠ m) :
    ¬ ((w.extractLsb' (8 * i) 8).extractLsb' 3 4 = 15#4 ∧ (w.extractLsb' (8 * i) 8).extractLsb' 0 3 = 7#3) := by
  rintro ⟨e1, e2⟩
  apply h
  apply BitVec.eq_of_getLsbD_eq
  intro k hk
  have eb : ∀ q, q < 7 → w.getLsbD (8 * i + q) = true := by
    intro q hq
    by_cases hq3 : q < 3
    · have := congrArg (fun b : BitVec 3 => b.getLsbD q) e2
      simp only [BitVec.getLsbD_extractLsb'] at this
      rw [show decide (q < 3) = true by simp [hq3], Bool.true_and, show decide (0 + q < 8) = true by simp; omega, Bool.true_and, Nat.zero_add] at this
      rw [this]
      interval_cases q <;> rfl
    · obtain ⟨r, rfl⟩ : ∃ r, q = 3 + r := ⟨q - 3, by omega⟩
      have := congrArg (fun b : BitVec 4 => b.getLsbD r) e1
      simp only [BitVec.getLsbD_extractLsb'] at this
      rw [show decide (r < 4) = true by simp; omega, Bool.true_and, show decide (3 + r < 8) = true by simp; omega, Bool.true_and] at this
      rw [this]
      have hr : r < 4 := by omega
      interval_cases r <;> rfl
  have hmk : m.getLsbD k = decide (8 * i ≤ k ∧ k < 8 * i + 7) := by
    subst hm
    interval_cases i <;> interval_cases k <;> rfl
  simp only [IntOp.andi, BitVec.getLsbD_and, hmk]
  by_cases hc : 8 * i ≤ k ∧ k < 8 * i + 7
  · have := eb (k - 8 * i) (by omega)
    rw [show 8 * i + (k - 8 * i) = k by omega] at this
    simp [this]
  · simp [hc]

/-! ## A head's arrays -/

/-- The words of one head: block, tile, row, lane. -/
abbrev Words := Fin 11 → Fin 36 → Fin 8 → Fin 128 → BitVec 32

/-- The token in lane `l` of tile `t`, … -/
def tok (t : Fin 36) (l : Fin 128) : Fin 4608 := ⟨128 * t.val + l.val, by omega⟩
/-- … a token's tile … -/
def tile (n : Fin 4608) : Fin 36 := ⟨n.val / 128, by omega⟩
/-- … and its lane. -/
def lane (n : Fin 4608) : Fin 128 := ⟨n.val % 128, Nat.mod_lt _ (by decide)⟩

theorem tile_tok (t : Fin 36) (l : Fin 128) : tile (tok t l) = t := Fin.ext (by show (128 * t.val + l.val) / 128 = t.val; omega)
theorem lane_tok (t : Fin 36) (l : Fin 128) : lane (tok t l) = l := Fin.ext (by show (128 * t.val + l.val) % 128 = l.val; omega)

variable (W : Words)

/-- Feature `j` of the key (and query) of token `n`: its code times the scale of its block of 32 features. -/
def qF (j : Fin 160) (n : Fin 4608) : EReal :=
  code (W ⟨j.val / 32, by omega⟩ (tile n) ⟨j.val % 32 / 4, by omega⟩ (lane n)) (j.val % 4)
    * fl (W 10 (tile n) ⟨j.val / 32, by omega⟩ (lane n))

/-- Feature `j` of the value of token `n`, unscaled. -/
def vF (j : Fin 160) (n : Fin 4608) : EReal :=
  code (W ⟨5 + j.val / 32, by omega⟩ (tile n) ⟨j.val % 32 / 4, by omega⟩ (lane n)) (j.val % 4)

/-- The scale of the value of token `n`. -/
def vsF (n : Fin 4608) : EReal := fl (W 10 (tile n) 5 (lane n))

/-- Where the bucket of token `n` starts. -/
def stW (n : Fin 4608) : BitVec 32 := W 10 (tile n) 6 (lane n)

/-- The constant 1e-6 of the mean of squares, as an f32. -/
def eps : EReal := Ideal.ofBits .f32 0x358637BD#32

/-- The scale of token `n` as a key, as the kernel forms it: with a factor 1 / log 2. -/
def kfK (n : Fin 4608) : EReal :=
  Ideal.rsqrt ((∑ j : Fin 160, qF W j n * qF W j n) * ((1 / 160 : ℝ) : EReal) + eps)
    * (((Real.sqrt 160)⁻¹ * (Real.log 2)⁻¹ : ℝ) : EReal)

/-- The scale of token `n` as a key: the root mean square of its features, and the square root of their number. -/
def kfR (n : Fin 4608) : EReal :=
  Ideal.div (Ideal.rsqrt (Ideal.div (∑ j : Fin 160, qF W j n * qF W j n) (Ideal.ofBits .f32 0x43200000#32) + eps))
    (Ideal.sqrt (Ideal.ofBits .f32 0x43200000#32))

end Cert.Head

end
-- ==== Proof.Dequant.lean ====
/- What the idealized kernel keeps for a tile, entry by entry over the extended reals: keys, values and each key's
   scale, from the packed words of the head. -/
module

public import proofs.«01_k».proof.Proof.Tiles
public import proofs.«01_k».proof.Proof.Codes
public import Idealize.ShloMosaic.Lib.Pointwise

@[expose] public section

set_option maxRecDepth 16384

noncomputable section

namespace Cert.KernelIdeal.Hand

open Cert.KernelIdeal Cert.KernelIdeal.Gen Cert.Head
open Idealize.ShloMosaic Idealize.ShloMosaic.TcCoe Idealize.SL.Sem

/-- A head's words. -/
def words (x : Vec Ideal S1x1x11x36x8x128 .i32) : Words := fun d t r l => x (ix6 0 0 d t r l)

section Blocks

variable (w10 w : Vec Ideal S1x1x1x1x8x128 .i32)

theorem byte_at (s : Fin 32) (l : Fin 128) :
    bitcast S32x128 8 (shapeCast S8x128 w shapeCasts_S1x1x1x1x8x128_S8x128) bitcasts_S8x128_w32_S32x128_w8 (ix2 s l)
      = (w (ix6 0 0 0 0 ⟨s.val / 4, by omega⟩ l)).extractLsb' (8 * (s.val % 4)) 8 := by
  have hb := bitcast_32_8_ix2 (shapeCast S8x128 w shapeCasts_S1x1x1x1x8x128_S8x128) bitcasts_S8x128_w32_S32x128_w8 s l ⟨s.val / 4, by omega⟩ rfl
  refine hb.trans ?_
  congr 1
  pointwise

theorem pay1_at (r : Fin 8) (l : Fin 128) : k0_pay1 w10 (ix2 r l) = fl (w10 (ix6 0 0 0 0 r l)) := by
  pointwise [k0_pay1]
  rfl

theorem pay2_at (s : Fin 32) (l : Fin 128) :
    k0_pay2 w10 w (ix2 s l) = code (w (ix6 0 0 0 0 ⟨s.val / 4, by omega⟩ l)) (s.val % 4) * fl (w10 (ix6 0 0 0 0 0 l)) := by
  pointwise [k0_pay2, k0_pay1]
  rw [byte_at]
  rfl

theorem pay3_at (s : Fin 32) (l : Fin 128) :
    k0_pay3 w10 w (ix2 s l) = code (w (ix6 0 0 0 0 ⟨s.val / 4, by omega⟩ l)) (s.val % 4) * fl (w10 (ix6 0 0 0 0 1 l)) := by
  pointwise [k0_pay3, k0_pay1]
  rw [byte_at]
  rfl

theorem pay5_at (s : Fin 32) (l : Fin 128) :
    k0_pay5 (k0_pay1 w10) w (ix2 s l) = code (w (ix6 0 0 0 0 ⟨s.val / 4, by omega⟩ l)) (s.val % 4) * fl (w10 (ix6 0 0 0 0 2 l)) := by
  pointwise [k0_pay5, k0_pay1]
  rw [byte_at]
  rfl

theorem pay6_at (s : Fin 32) (l : Fin 128) :
    k0_pay6 (k0_pay1 w10) w (ix2 s l) = code (w (ix6 0 0 0 0 ⟨s.val / 4, by omega⟩ l)) (s.val % 4) * fl (w10 (ix6 0 0 0 0 3 l)) := by
  pointwise [k0_pay6, k0_pay1]
  rw [byte_at]
  rfl

theorem pay7_at (s : Fin 32) (l : Fin 128) :
    k0_pay7 (k0_pay1 w10) w (ix2 s l) = code (w (ix6 0 0 0 0 ⟨s.val / 4, by omega⟩ l)) (s.val % 4) * fl (w10 (ix6 0 0 0 0 4 l)) := by
  pointwise [k0_pay7, k0_pay1]
  rw [byte_at]
  rfl

theorem pay11_at (s : Fin 32) (l : Fin 128) :
    k0_pay11 w (ix2 s l) = code (w (ix6 0 0 0 0 ⟨s.val / 4, by omega⟩ l)) (s.val % 4) := by
  pointwise [k0_pay11]
  rw [byte_at]
  rfl

theorem pay12_at (s : Fin 32) (l : Fin 128) :
    k0_pay12 w (ix2 s l) = code (w (ix6 0 0 0 0 ⟨s.val / 4, by omega⟩ l)) (s.val % 4) := pay11_at w s l

end Blocks

variable (x : Vec Ideal S1x1x11x36x8x128 .i32) (t : Fin 36)

theorem qF_block (d : Fin 5) (s : Fin 32) (l : Fin 128) (j : Fin 160) (hj : j.val = 32 * d.val + s.val)
    (d' : Fin 11) (hd' : d'.val = d.val) (r : Fin 8) (hr : r.val = d.val) :
    code (wordAt x t d' (ix6 0 0 0 0 ⟨s.val / 4, by omega⟩ l)) (s.val % 4) * fl (wordAt x t 10 (ix6 0 0 0 0 r l))
      = qF (words x) j (tok t l) := by
  have e1 : j.val / 32 = d.val := by omega
  have e2 : j.val % 32 / 4 = s.val / 4 := by omega
  have e3 : j.val % 4 = s.val % 4 := by omega
  unfold qF
  rw [tile_tok, lane_tok, e3]
  have a1 : (⟨j.val / 32, by omega⟩ : Fin 11) = d' := Fin.ext (by rw [hd']; exact e1)
  have a2 : (⟨j.val % 32 / 4, by omega⟩ : Fin 8) = ⟨s.val / 4, by omega⟩ := Fin.ext e2
  have a3 : (⟨j.val / 32, by omega⟩ : Fin 8) = r := Fin.ext (by rw [hr]; exact e1)
  rw [a1, a2, a3]
  rfl

theorem vF_block (d : Fin 5) (s : Fin 32) (l : Fin 128) (j : Fin 160) (hj : j.val = 32 * d.val + s.val)
    (d' : Fin 11) (hd' : d'.val = 5 + d.val) :
    code (wordAt x t d' (ix6 0 0 0 0 ⟨s.val / 4, by omega⟩ l)) (s.val % 4) = vF (words x) j (tok t l) := by
  have e1 : j.val / 32 = d.val := by omega
  have e2 : j.val % 32 / 4 = s.val / 4 := by omega
  have e3 : j.val % 4 = s.val % 4 := by omega
  unfold vF
  rw [tile_tok, lane_tok, e3]
  have a1 : (⟨5 + j.val / 32, by omega⟩ : Fin 11) = d' := Fin.ext (by rw [hd', ← e1])
  have a2 : (⟨j.val % 32 / 4, by omega⟩ : Fin 8) = ⟨s.val / 4, by omega⟩ := Fin.ext e2
  rw [a1, a2]
  rfl

theorem q0 (s : Fin 32) (l : Fin 128) (j : Fin 160) (hj : j.val = s.val) :
    k0_pay2 (wordAt x t 10) (wordAt x t 0) (ix2 s l) = qF (words x) j (tok t l) := by
  rw [pay2_at]; exact qF_block x t 0 s l j (by simpa using hj) 0 rfl 0 rfl
theorem q1 (s : Fin 32) (l : Fin 128) (j : Fin 160) (hj : j.val = 32 + s.val) :
    k0_pay3 (wordAt x t 10) (wordAt x t 1) (ix2 s l) = qF (words x) j (tok t l) := by
  rw [pay3_at]; exact qF_block x t 1 s l j hj 1 rfl 1 rfl
theorem q2 (s : Fin 32) (l : Fin 128) (j : Fin 160) (hj : j.val = 64 + s.val) :
    k0_pay5 (k0_pay1 (wordAt x t 10)) (wordAt x t 2) (ix2 s l) = qF (words x) j (tok t l) := by
  rw [pay5_at]; exact qF_block x t 2 s l j hj 2 rfl 2 rfl
theorem q3 (s : Fin 32) (l : Fin 128) (j : Fin 160) (hj : j.val = 96 + s.val) :
    k0_pay6 (k0_pay1 (wordAt x t 10)) (wordAt x t 3) (ix2 s l) = qF (words x) j (tok t l) := by
  rw [pay6_at]; exact qF_block x t 3 s l j hj 3 rfl 3 rfl
theorem q4 (s : Fin 32) (l : Fin 128) (j : Fin 160) (hj : j.val = 128 + s.val) :
    k0_pay7 (k0_pay1 (wordAt x t 10)) (wordAt x t 4) (ix2 s l) = qF (words x) j (tok t l) := by
  rw [pay7_at]; exact qF_block x t 4 s l j hj 4 rfl 4 rfl

/-- The five blocks on top of each other are the 160 features. -/
theorem pay9_at (j : Fin 160) (l : Fin 128) :
    k0_pay9 (k0_pay2 (wordAt x t 10) (wordAt x t 0)) (k0_pay3 (wordAt x t 10) (wordAt x t 1)) (k0_pay5 (k0_pay1 (wordAt x t 10)) (wordAt x t 2))
      (k0_pay6 (k0_pay1 (wordAt x t 10)) (wordAt x t 3)) (k0_pay7 (k0_pay1 (wordAt x t 10)) (wordAt x t 4)) (ix2 j l)
      = qF (words x) j (tok t l) := by
  have hj := j.isLt
  have e0 := fun s => q0 x t s l j
  have e1 := fun s => q1 x t s l j
  have e2 := fun s => q2 x t s l j
  have e3 := fun s => q3 x t s l j
  have e4 := fun s => q4 x t s l j
  generalize k0_pay2 (wordAt x t 10) (wordAt x t 0) = b0 at *
  generalize k0_pay3 (wordAt x t 10) (wordAt x t 1) = b1 at *
  generalize k0_pay5 (k0_pay1 (wordAt x t 10)) (wordAt x t 2) = b2 at *
  generalize k0_pay6 (k0_pay1 (wordAt x t 10)) (wordAt x t 3) = b3 at *
  generalize k0_pay7 (k0_pay1 (wordAt x t 10)) (wordAt x t 4) = b4 at *
  pointwise [k0_pay9]
  by_cases h1 : j.val < 32
  · rw [dif_pos h1]; exact e0 _ (by simp)
  rw [dif_neg h1]
  by_cases h2 : j.val - 32 < 32
  · rw [dif_pos h2]; exact e1 _ (by simp; omega)
  rw [dif_neg h2]
  by_cases h3 : j.val - 32 - 32 < 32
  · rw [dif_pos h3]; exact e2 _ (by simp; omega)
  rw [dif_neg h3]
  by_cases h4 : j.val - 32 - 32 - 32 < 32
  · rw [dif_pos h4]; exact e3 _ (by simp; omega)
  rw [dif_neg h4]
  exact e4 _ (by simp; omega)

theorem kT_at (j : Fin 160) (l : Fin 128) : kT (wordAt x t) (ix3 0 j l) = qF (words x) j (tok t l) := by
  rw [← pay9_at x t j l]
  pointwise [kT, k0_pay59]

theorem vT_at (j : Fin 160) (l : Fin 128) : vT (wordAt x t) (ix3 0 j l) = vF (words x) j (tok t l) * vsF (words x) (tok t l) := by
  have hj := j.isLt
  have e1 : k0_pay1 (wordAt x t 10) (ix2 5 l) = vsF (words x) (tok t l) := by
    rw [pay1_at, vsF, tile_tok, lane_tok]
    rfl
  unfold vT
  rw [← e1]
  generalize k0_pay1 (wordAt x t 10) = A
  pointwise [k0_pay61]
  congr 1
  by_cases h1 : j.val < 32
  · rw [dif_pos h1, pay11_at]; exact vF_block x t 0 _ l j (by simp) 5 rfl
  rw [dif_neg h1]
  by_cases h2 : j.val - 32 < 32
  · rw [dif_pos h2, pay12_at]; exact vF_block x t 1 _ l j (by simp; omega) 6 rfl
  rw [dif_neg h2]
  by_cases h3 : j.val - 32 - 32 < 32
  · rw [dif_pos h3, byte_at]; exact vF_block x t 2 _ l j (by simp; omega) 7 rfl
  rw [dif_neg h3]
  by_cases h4 : j.val - 32 - 32 - 32 < 32
  · rw [dif_pos h4, byte_at]; exact vF_block x t 3 _ l j (by simp; omega) 8 rfl
  rw [dif_neg h4, byte_at]
  exact vF_block x t 4 _ l j (by simp; omega) 9 rfl

/-! ## A key's scale -/

theorem named_inv_d : (Named.named κ "inv_d" 0x3BCCCCCD#32 : Ideal .f32) = ((1 / 160 : ℝ) : EReal) :=
  IdealRules.named_const.ideal_named_scalar _ _ _ _ rfl
theorem named_key_scale : (Named.named κ "key_scale" 0x3DE995B3#32 : Ideal .f32) = (((Real.sqrt 160)⁻¹ * (Real.log 2)⁻¹ : ℝ) : EReal) :=
  IdealRules.named_const.ideal_named_scalar _ _ _ _ rfl

/-- The sum over 160 features, by five blocks of four groups of eight. -/
theorem sum_blocks (f : Fin 160 → EReal) :
    (∑ s : Fin 8, (((((∑ i : Fin 4, f ⟨0 * 32 + (i.val * 8 + s.val), by omega⟩) + (∑ i : Fin 4, f ⟨1 * 32 + (i.val * 8 + s.val), by omega⟩))
      + (∑ i : Fin 4, f ⟨2 * 32 + (i.val * 8 + s.val), by omega⟩)) + (∑ i : Fin 4, f ⟨3 * 32 + (i.val * 8 + s.val), by omega⟩))
      + (∑ i : Fin 4, f ⟨4 * 32 + (i.val * 8 + s.val), by omega⟩))) = ∑ j : Fin 160, f j := by
  rw [Fin.sum_univ_tiles 5 32 rfl f]
  have h32 : ∀ d : Fin 5, (∑ r : Fin 32, f ⟨d.val * 32 + r.val, by omega⟩) = ∑ s : Fin 8, ∑ i : Fin 4, f ⟨d.val * 32 + (i.val * 8 + s.val), by omega⟩ := by
    intro d
    rw [Fin.sum_univ_tiles 4 8 rfl (fun r : Fin 32 => f ⟨d.val * 32 + r.val, by omega⟩), Finset.sum_comm]
  rw [Fin.sum_univ_five]
  rw [h32, h32, h32, h32, h32]
  simp only [Finset.sum_add_distrib]
  rfl

theorem kf_at (l : Fin 128) :
    k0_pay8 (k0_pay1 (wordAt x t 10)) (k0_pay4 (wordAt x t 10) (wordAt x t 0) (wordAt x t 1)) (wordAt x t 2) (wordAt x t 3) (wordAt x t 4) (ix2 0 l)
        * (((Real.sqrt 160)⁻¹ * (Real.log 2)⁻¹ : ℝ) : EReal)
      = kfK (words x) (tok t l) := by
  unfold kfK
  rw [← sum_blocks (fun j => qF (words x) j (tok t l) * qF (words x) j (tok t l))]
  pointwise [k0_pay8, k0_pay4]
  have hn : (Named.named κ "inv_d" 1003277517#32 : Ideal .f32) = ((1 / 160 : ℝ) : EReal) := named_inv_d
  rw [hn]
  congr 4
  refine Finset.sum_congr rfl fun s _ => ?_
  congr 1
  · congr 1
    · congr 1
      · congr 1
        · refine Finset.sum_congr rfl fun i _ => ?_
          rw [q0 x t ⟨i.val * 8 + s.val, by omega⟩ l ⟨0 * 32 + (i.val * 8 + s.val), by omega⟩ (by simp)]
          simp only [Nat.zero_mul, Nat.zero_add]
        · refine Finset.sum_congr rfl fun i _ => ?_
          rw [q1 x t ⟨i.val * 8 + s.val, by omega⟩ l ⟨1 * 32 + (i.val * 8 + s.val), by omega⟩ (by simp)]
      · refine Finset.sum_congr rfl fun i _ => ?_
        rw [q2 x t ⟨i.val * 8 + s.val, by omega⟩ l ⟨2 * 32 + (i.val * 8 + s.val), by omega⟩ (by simp)]
    · refine Finset.sum_congr rfl fun i _ => ?_
      rw [q3 x t ⟨i.val * 8 + s.val, by omega⟩ l ⟨3 * 32 + (i.val * 8 + s.val), by omega⟩ (by simp)]
  · refine Finset.sum_congr rfl fun i _ => ?_
    rw [q4 x t ⟨i.val * 8 + s.val, by omega⟩ l ⟨4 * 32 + (i.val * 8 + s.val), by omega⟩ (by simp)]

/-- The kept keys by token: the features, then the scale in three parts, then zeros. -/
def augK (W : Words) (j : Fin 176) (n : Fin 4608) : EReal :=
  if h : j.val < 160 then qF W ⟨j.val, h⟩ n
  else if j.val = 160 then kfK W n
  else if j.val = 161 then kfK W n - kfK W n
  else if j.val = 162 then kfK W n - kfK W n - (kfK W n - kfK W n)
  else 0

theorem krT_at (j : Fin 176) (l : Fin 128) : krT (wordAt x t) (ix2 l j) = augK (words x) j (tok t l) := by
  have hj := j.isLt
  unfold augK
  rw [← kf_at x t l]
  unfold krT
  generalize hk : k0_pay8 (k0_pay1 (wordAt x t 10)) (k0_pay4 (wordAt x t 10) (wordAt x t 0) (wordAt x t 1)) (wordAt x t 2) (wordAt x t 3) (wordAt x t 4) = kf
  by_cases h : j.val < 160
  · rw [dif_pos h, ← pay9_at x t ⟨j.val, h⟩ l]
    generalize k0_pay2 (wordAt x t 10) (wordAt x t 0) = b0
    generalize k0_pay3 (wordAt x t 10) (wordAt x t 1) = b1
    generalize k0_pay5 (k0_pay1 (wordAt x t 10)) (wordAt x t 2) = b2
    generalize k0_pay6 (k0_pay1 (wordAt x t 10)) (wordAt x t 3) = b3
    generalize k0_pay7 (k0_pay1 (wordAt x t 10)) (wordAt x t 4) = b4
    pointwise [k0_pay60, k0_pay10, k0_pay9, row16]
    rw [dif_pos h]
  · rw [dif_neg h]
    generalize k0_pay2 (wordAt x t 10) (wordAt x t 0) = b0
    generalize k0_pay3 (wordAt x t 10) (wordAt x t 1) = b1
    generalize k0_pay5 (k0_pay1 (wordAt x t 10)) (wordAt x t 2) = b2
    generalize k0_pay6 (k0_pay1 (wordAt x t 10)) (wordAt x t 3) = b3
    generalize k0_pay7 (k0_pay1 (wordAt x t 10)) (wordAt x t 4) = b4
    pointwise [k0_pay60, k0_pay10, k0_pay9, row16]
    rw [dif_neg h]
    have hn : (Named.named κ "key_scale" 1038718387#32 : Ideal .f32) = (((Real.sqrt 160)⁻¹ * (Real.log 2)⁻¹ : ℝ) : EReal) := named_key_scale
    rw [hn]
    generalize (((Real.sqrt 160)⁻¹ * (Real.log 2)⁻¹ : ℝ) : EReal) = c
    obtain ⟨i, hi, hi'⟩ : ∃ i, i < 16 ∧ j.val = 160 + i := ⟨j.val - 160, by omega, by omega⟩
    rw [hi']
    interval_cases i <;> simp [Scalar.select, IntOp.cmpi]

end Cert.KernelIdeal.Hand

end
-- ==== Proof.Softmax.lean ====
/- The softmax over 128 scores, over the extended reals. The kernel takes its scores times 1 / log 2, in two halves of
   64, and powers of two; the plain softmax takes the scores and powers of e. On real scores both are the same real
   numbers. -/
module

public import Idealize.ShloMosaic.PureOps.Ideal
public import Idealize.ShloMosaic.Lib.Pointwise

@[expose] public section

noncomputable section

namespace Cert.Head

open Idealize.ShloMosaic

/-- The largest of 128 scores. -/
def top (z : Fin 128 → ℝ) : ℝ := Finset.univ.sup' ⟨0, Finset.mem_univ _⟩ z

theorem le_top (z : Fin 128 → ℝ) (k : Fin 128) : z k ≤ top z := Finset.le_sup' z (Finset.mem_univ k)
theorem exists_top (z : Fin 128 → ℝ) : ∃ k, top z = z k := by
  obtain ⟨k, -, h⟩ := Finset.exists_mem_eq_sup' (⟨0, Finset.mem_univ _⟩ : (Finset.univ : Finset (Fin 128)).Nonempty) z
  exact ⟨k, h⟩

/-- The softmax weight of score `k`. -/
def weight (z : Fin 128 → ℝ) (k : Fin 128) : ℝ := Real.exp (z k - top z) / ∑ i : Fin 128, Real.exp (z i - top z)

theorem sum_pos (z : Fin 128 → ℝ) : 0 < ∑ i : Fin 128, Real.exp (z i - top z) :=
  Finset.sum_pos (fun _ _ => Real.exp_pos _) ⟨0, Finset.mem_univ _⟩

theorem fold_le {n : ℕ} (f : Fin n → EReal) (b : EReal) (h : ∀ k, f k ≤ b) : Finset.univ.fold max ⊥ f ≤ b :=
  Finset.sup_le fun k _ => h k
theorem le_fold {n : ℕ} (f : Fin n → EReal) (k : Fin n) : f k ≤ Finset.univ.fold max ⊥ f :=
  Finset.le_sup (f := f) (Finset.mem_univ k)

theorem fold_coe (z : Fin 128 → ℝ) (s : Fin 128 → EReal) (hs : ∀ k, s k = (z k : EReal)) : Finset.univ.fold max ⊥ s = (top z : EReal) := by
  apply le_antisymm
  · exact fold_le _ _ fun k => by rw [hs]; exact EReal.coe_le_coe_iff.mpr (le_top z k)
  · obtain ⟨k, h⟩ := exists_top z
    rw [h, ← hs]
    exact le_fold _ k

theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem plain_weight (z : Fin 128 → ℝ) (s : Fin 128 → EReal) (hs : ∀ k, s k = (z k : EReal)) (k : Fin 128) :
    Ideal.div (Ideal.exp (s k - Finset.univ.fold max ⊥ s)) (∑ i, Ideal.exp (s i - Finset.univ.fold max ⊥ s)) = (weight z k : EReal) := by
  rw [fold_coe z s hs]
  have e : ∀ i, Ideal.exp (s i - (top z : EReal)) = ((Real.exp (z i - top z) : ℝ) : EReal) := by
    intro i
    rw [hs, ← EReal.coe_sub]
    rfl
  simp only [e]
  rw [coe_sum, Ideal.div_coe (ne_of_gt (sum_pos z)), ← EReal.coe_mul, weight, div_eq_mul_one_div (Real.exp (z k - top z))]

theorem two_rpow (x : ℝ) : Real.rpow 2 (x * (Real.log 2)⁻¹) = Real.exp x := by
  show (2 : ℝ) ^ (x * (Real.log 2)⁻¹) = Real.exp x
  rw [Real.rpow_def_of_pos (by norm_num)]
  congr 1
  have : Real.log 2 ≠ 0 := ne_of_gt (Real.log_pos (by norm_num))
  field_simp

theorem halves_weight (z : Fin 128 → ℝ) (a o : Fin 64 → EReal) (ha : ∀ k : Fin 64, a k = ((z ⟨k.val, by omega⟩ * (Real.log 2)⁻¹ : ℝ) : EReal))
    (ho : ∀ k : Fin 64, o k = ((z ⟨64 + k.val, by omega⟩ * (Real.log 2)⁻¹ : ℝ) : EReal)) (s : EReal) (k : Fin 128)
    (hs : s = ((z k * (Real.log 2)⁻¹ : ℝ) : EReal)) :
    Ideal.exp2 (s - max (Finset.univ.fold max ⊥ a) (Finset.univ.fold max ⊥ o))
        * Ideal.div 1 ((∑ i, Ideal.exp2 (a i - max (Finset.univ.fold max ⊥ a) (Finset.univ.fold max ⊥ o)))
            + ∑ i, Ideal.exp2 (o i - max (Finset.univ.fold max ⊥ a) (Finset.univ.fold max ⊥ o)))
      = (weight z k : EReal) := by
  have hL : 0 < (Real.log 2)⁻¹ := inv_pos.mpr (Real.log_pos (by norm_num))
  have hM : max (Finset.univ.fold max ⊥ a) (Finset.univ.fold max ⊥ o) = ((top z * (Real.log 2)⁻¹ : ℝ) : EReal) := by
    apply le_antisymm
    · refine max_le (fold_le _ _ fun k => ?_) (fold_le _ _ fun k => ?_)
      · rw [ha]; exact EReal.coe_le_coe_iff.mpr (mul_le_mul_of_nonneg_right (le_top z _) hL.le)
      · rw [ho]; exact EReal.coe_le_coe_iff.mpr (mul_le_mul_of_nonneg_right (le_top z _) hL.le)
    · obtain ⟨k, h⟩ := exists_top z
      rw [h]
      by_cases hk : k.val < 64
      · exact (le_of_eq (ha ⟨k.val, hk⟩).symm).trans ((le_fold a ⟨k.val, hk⟩).trans (le_max_left _ _))
      · have e : (⟨64 + (k.val - 64), by omega⟩ : Fin 128) = k := Fin.ext (by show 64 + (k.val - 64) = k.val; omega)
        have := ho ⟨k.val - 64, by omega⟩
        rw [e] at this
        exact (le_of_eq this.symm).trans ((le_fold o ⟨k.val - 64, by omega⟩).trans (le_max_right _ _))
  rw [hM]
  have e : ∀ x : ℝ, Ideal.exp2 (((x * (Real.log 2)⁻¹ : ℝ) : EReal) - ((top z * (Real.log 2)⁻¹ : ℝ) : EReal)) = ((Real.exp (x - top z) : ℝ) : EReal) := by
    intro x
    rw [← EReal.coe_sub, ← sub_mul, ← two_rpow]
    rfl
  simp only [hs, ha, ho, e]
  rw [coe_sum, coe_sum, ← EReal.coe_add, ← Fin.sum_univ_two_halves 64 64 rfl (fun i : Fin 128 => Real.exp (z i - top z))]
  have h1 : (1 : EReal) = ((1 : ℝ) : EReal) := rfl
  rw [h1, Ideal.div_coe (ne_of_gt (sum_pos z)), ← EReal.coe_mul, ← EReal.coe_mul, one_mul, weight, div_eq_mul_one_div (Real.exp (z k - top z))]

end Cert.Head

end
-- ==== Proof.Window.lean ====
/- The attention window of a token, and what is open in it. Token `n` of the sorted order lies in chunk `n / 64` and looks
   at 128 keys: the chunk before its own (the last one for the first chunk), then its own. -/
module

public import proofs.«01_k».proof.Proof.Codes
public import proofs.«01_k».proof.Proof.Softmax

@[expose] public section

noncomputable section

namespace Cert.Head

open Idealize.ShloMosaic

/-- Key `k` of token `n`'s window. -/
def key (n : Fin 4608) (k : Fin 128) : Fin 4608 := ⟨(64 * (n.val / 64) + k.val + 4544) % 4608, Nat.mod_lt _ (by decide)⟩

variable (W : Words)

/-- Key `k` of the window is in the token's bucket and before the token. -/
def Open (n : Fin 4608) (k : Fin 128) : Prop :=
  (stW W n).toNat + 64 ≤ 64 * (n.val / 64) + k.val ∧ 64 * (n.val / 64) + k.val < n.val + 64

/-- Key `k` of the window is the token itself. -/
def Self (n : Fin 4608) (k : Fin 128) : Prop := 64 * (n.val / 64) + k.val = n.val + 64

/-- A score, masked. -/
def masked {α : Type} (n : Fin 4608) (k : Fin 128) (y self other : α) : α :=
  open Classical in if Open W n k then y else if Self n k then self else other

theorem masked_open {α : Type} {n : Fin 4608} {k : Fin 128} (h : Open W n k) (y self other : α) : masked W n k y self other = y := by
  unfold masked; rw [if_pos h]
theorem masked_self {α : Type} {n : Fin 4608} {k : Fin 128} (h : ¬ Open W n k) (h' : Self n k) (y self other : α) : masked W n k y self other = self := by
  unfold masked; rw [if_neg h, if_pos h']
theorem masked_other {α : Type} {n : Fin 4608} {k : Fin 128} (h : ¬ Open W n k) (h' : ¬ Self n k) (y self other : α) : masked W n k y self other = other := by
  unfold masked; rw [if_neg h, if_neg h']

/-- The product of the features of tokens `m` and `n`. -/
def dotF (m n : Fin 4608) : EReal := ∑ j : Fin 160, qF W j m * qF W j n

/-- The score of key `k` of the window of token `n`: the token itself and keys that are of another bucket or come later
    have constants for scores. -/
def scoreR (n : Fin 4608) (k : Fin 128) : EReal :=
  open Classical in
  if n = key n k then Ideal.ofBits .f32 0xC7C35000#32
  else if stW W (key n k) ≠ stW W n ∨ n < key n k then Ideal.ofBits .f32 0xCE6E6B28#32
  else dotF W n (key n k) * kfR W (key n k)

/-- What the codes, scales and bucket starts of a head must satisfy: codes and scales of the keys are real numbers, and
    the bucket starts are those of a sorted order. -/
structure Fine : Prop where
  real : ∀ j n, ∃ r : ℝ, qF W j n = (r : EReal)
  start : ∀ n, (stW W n).toNat ≤ n.val
  same : ∀ m n : Fin 4608, m < n → (stW W m = stW W n ↔ (stW W n).toNat ≤ m.val)

/-! ## The real numbers behind -/

/-- The features as real numbers. -/
def qR (j : Fin 160) (n : Fin 4608) : ℝ := (qF W j n).toReal
/-- The mean of squares plus 1e-6. -/
def msR (n : Fin 4608) : ℝ := (∑ j : Fin 160, qR W j n * qR W j n) * (1 / 160) + eps.toReal
/-- The scores, masked. -/
def zR (n : Fin 4608) (k : Fin 128) : ℝ :=
  masked W n k ((∑ j : Fin 160, qR W j (key n k) * qR W j n) * ((Real.sqrt (msR W (key n k)))⁻¹ * (Real.sqrt 160)⁻¹)) (-100000) (-1000000000)

variable {W}

theorem Fine.q (h : Fine W) (j : Fin 160) (n : Fin 4608) : qF W j n = (qR W j n : EReal) := by
  obtain ⟨r, hr⟩ := h.real j n
  unfold qR
  rw [hr, EReal.toReal_coe]

theorem coe_sum' {n : ℕ} (f : Fin n → ℝ) : (∑ k, ((f k : ℝ) : EReal)) = ((∑ k, f k : ℝ) : EReal) := coe_sum f

theorem Fine.dot (h : Fine W) (m n : Fin 4608) : dotF W m n = ((∑ j : Fin 160, qR W j m * qR W j n : ℝ) : EReal) := by
  unfold dotF
  rw [← coe_sum]
  exact Finset.sum_congr rfl fun j _ => by rw [h.q, h.q, ← EReal.coe_mul]

theorem eps_real : eps = (eps.toReal : EReal) ∧ 0 < eps.toReal := by
  have e : eps = ((8796093 / 8796093022208 : ℝ) : EReal) := by
    unfold eps
    simp [Ideal.ofBits, Ideal.ieee, -EReal.coe_mul]
    norm_num
  rw [e, EReal.toReal_coe]
  exact ⟨rfl, by norm_num⟩

theorem Fine.ms_pos (h : Fine W) (n : Fin 4608) : 0 < msR W n := by
  have h1 : 0 ≤ ∑ j : Fin 160, qR W j n * qR W j n := Finset.sum_nonneg fun j _ => mul_self_nonneg _
  have := eps_real.2
  unfold msR
  linarith [mul_nonneg h1 (by norm_num : (0:ℝ) ≤ 1 / 160)]

theorem Fine.rs (h : Fine W) (n : Fin 4608) : Ideal.rsqrt ((msR W n : ℝ) : EReal) = (((Real.sqrt (msR W n))⁻¹ : ℝ) : EReal) := by
  show (if msR W n < 0 then _ else if msR W n = 0 then _ else _) = _
  rw [if_neg (not_lt.mpr (h.ms_pos n).le), if_neg (h.ms_pos n).ne']

theorem c160 : Ideal.ofBits .f32 0x43200000#32 = ((160 : ℝ) : EReal) := by
  simp [Ideal.ofBits, Ideal.ieee, -EReal.coe_mul]
  norm_num

theorem Fine.kfK (h : Fine W) (n : Fin 4608) :
    kfK W n = (((Real.sqrt (msR W n))⁻¹ * ((Real.sqrt 160)⁻¹ * (Real.log 2)⁻¹) : ℝ) : EReal) := by
  unfold Cert.Head.kfK
  rw [show (∑ j : Fin 160, qF W j n * qF W j n) = dotF W n n from rfl, h.dot, eps_real.1, ← EReal.coe_mul, ← EReal.coe_add]
  rw [show ((∑ j : Fin 160, qR W j n * qR W j n) * (1 / 160) + eps.toReal) = msR W n from rfl, h.rs, ← EReal.coe_mul]

theorem Fine.kfR (h : Fine W) (n : Fin 4608) :
    kfR W n = (((Real.sqrt (msR W n))⁻¹ * (Real.sqrt 160)⁻¹ : ℝ) : EReal) := by
  unfold Cert.Head.kfR
  rw [show (∑ j : Fin 160, qF W j n * qF W j n) = dotF W n n from rfl, h.dot, c160, Ideal.div_coe (by norm_num), eps_real.1, ← EReal.coe_mul, ← EReal.coe_add]
  rw [show ((∑ j : Fin 160, qR W j n * qR W j n) * (1 / 160) + eps.toReal) = msR W n from rfl, h.rs]
  have hs : Ideal.sqrt ((160 : ℝ) : EReal) = ((Real.sqrt 160 : ℝ) : EReal) := by
    show (if (160 : ℝ) < 0 then _ else _) = _
    rw [if_neg (by norm_num)]
  rw [hs, Ideal.div_coe (by positivity), ← EReal.coe_mul, one_div]

theorem self_const : Ideal.ofBits .f32 0xC7C35000#32 = ((-100000 : ℝ) : EReal) := by
  simp [Ideal.ofBits, Ideal.ieee, -EReal.coe_mul]
  norm_num
theorem other_const : Ideal.ofBits .f32 0xCE6E6B28#32 = ((-1000000000 : ℝ) : EReal) := by
  simp [Ideal.ofBits, Ideal.ieee, -EReal.coe_mul]
  norm_num

/-- The plain scores are those real numbers: the two readings of the mask agree. -/
theorem Fine.scoreR (h : Fine W) (n : Fin 4608) (k : Fin 128) : scoreR W n k = (zR W n k : EReal) := by
  have hk := k.isLt
  have hn := n.isLt
  have hst := h.start n
  have hkey : (key n k).val = (64 * (n.val / 64) + k.val + 4544) % 4608 := rfl
  unfold Cert.Head.scoreR zR
  by_cases hs : n = key n k
  · have hv : n.val = (64 * (n.val / 64) + k.val + 4544) % 4608 := (congrArg Fin.val hs).trans hkey
    have hself : Self n k := by unfold Self; omega
    have hopen : ¬ Open W n k := fun ho => by have := ho.2; unfold Self at hself; omega
    rw [if_pos hs, masked_self W hopen hself, self_const]
  · rw [if_neg hs]
    have hself : ¬ Self n k := by
      intro hself
      unfold Self at hself
      exact hs (Fin.ext (by rw [hkey]; omega))
    by_cases hb : stW W (key n k) ≠ stW W n ∨ n < key n k
    · rw [if_pos hb]
      have hopen : ¬ Open W n k := by
        rintro ⟨h1, h2⟩
        have hlt : key n k < n := by show (key n k).val < n.val; rw [hkey]; omega
        rcases hb with hb | hb
        · exact hb ((h.same _ _ hlt).mpr (by rw [hkey]; omega))
        · exact absurd hb (not_lt.mpr hlt.le)
      rw [masked_other W hopen hself, other_const]
    · rw [if_neg hb]
      obtain ⟨h1, h2⟩ := not_or.mp hb
      have h1 := not_not.mp h1
      have hlt : key n k < n := lt_of_le_of_ne (not_lt.mp h2) (fun e => hs e.symm)
      have hlt' : (key n k).val < n.val := hlt
      rw [hkey] at hlt'
      have hge := (h.same _ _ hlt).mp h1
      rw [hkey] at hge
      have hopen : Open W n k := by
        refine ⟨?_, ?_⟩ <;> omega
      rw [masked_open W hopen, h.dot, h.kfR, ← EReal.coe_mul]
      congr 2
      exact Finset.sum_congr rfl fun j _ => mul_comm _ _

/-- Attention: feature `j` of the result of token `n`. -/
def attention (W : Words) (n : Fin 4608) (j : Fin 160) : EReal :=
  ∑ k : Fin 128, vF W j (key n k) * vsF W (key n k) * (weight (zR W n) k : EReal)

end Cert.Head

end
-- ==== Proof.Attend.lean ====
/- What the idealized kernel stores for a tile, entry by entry over the extended reals: the softmax weights of a token's 128
   keys, in two halves of 64, times the keys' values. -/
module

public import proofs.«01_k».proof.Proof.Dequant
public import proofs.«01_k».proof.Proof.Window

@[expose] public section

set_option maxRecDepth 16384

noncomputable section

namespace Cert.KernelIdeal.Hand

open Cert.KernelIdeal Cert.KernelIdeal.Gen Cert.Head
open Idealize.ShloMosaic Idealize.ShloMosaic.TcCoe Idealize.SL.Sem

/-! ## The rows of keys -/

variable (x : Vec Ideal S1x1x11x36x8x128 .i32)

/-- The token of row `r` of the 192 that tile `p` looks at. -/
def rowTok (p : Fin 36) (r : Fin 192) : Fin 4608 := ⟨(128 * p.val + r.val + 4544) % 4608, Nat.mod_lt _ (by decide)⟩

theorem keysT_at (p : Fin 36) (r : Fin 192) (j : Fin 176) : keysT x p (ix2 r j) = augK (words x) j (rowTok p r) := by
  have hp := p.isLt
  have hr := r.isLt
  show krT (wordAt x (slot ⟨(128 * p.val + 64 + r.val) / 128, _⟩)) (ix2 ⟨(128 * p.val + 64 + r.val) % 128, _⟩ j) = _
  rw [krT_at]
  congr 1
  apply Fin.ext
  unfold tok slot rowTok
  dsimp only
  split
  · next h => show 128 * 35 + (128 * p.val + 64 + r.val) % 128 = (128 * p.val + r.val + 4544) % 4608; omega
  · next h => show 128 * ((128 * p.val + 64 + r.val) / 128 - 1) + (128 * p.val + 64 + r.val) % 128 = (128 * p.val + r.val + 4544) % 4608; omega

theorem slab_key (p : Fin 36) (j : Fin 160) (l : Fin 128) : slab (KT x) p.succ (ix3 0 j l) = qF (words x) j (tok p l) := by
  have hp := p.isLt
  have e : slot p.succ = p := by unfold slot; rw [dif_neg (by simp)]; exact Fin.ext (by simp)
  show kT (wordAt x (slot p.succ)) (ix3 0 j l) = _
  rw [e, kT_at]

/-- The scaled value of a token. -/
def vvF (W : Words) (j : Fin 160) (n : Fin 4608) : EReal := vF W j n * vsF W n

theorem slab_val (p : Fin 36) (j : Fin 160) (l : Fin 128) : slab (VT x) p.succ (ix3 0 j l) = vvF (words x) j (tok p l) := by
  have e : slot p.succ = p := by unfold slot; rw [dif_neg (by simp)]; exact Fin.ext (by simp)
  show vT (wordAt x (slot p.succ)) (ix3 0 j l) = _
  rw [e, vT_at]
  rfl

theorem slab_val0 (p : Fin 36) (j : Fin 160) (l : Fin 128) :
    slab (VT x) p.castSucc (ix3 0 j l) = vvF (words x) j ⟨(128 * p.val + l.val + 4480) % 4608, Nat.mod_lt _ (by decide)⟩ := by
  have hp := p.isLt
  have hl := l.isLt
  show vT (wordAt x (slot p.castSucc)) (ix3 0 j l) = _
  rw [vT_at]
  show vvF (words x) j (tok (slot p.castSucc) l) = _
  congr 1
  apply Fin.ext
  unfold tok slot
  dsimp only
  split
  · next h => have h : p.val = 0 := h; show 128 * 35 + l.val = (128 * p.val + l.val + 4480) % 4608; omega
  · next h => have h : ¬ p.val = 0 := h; show 128 * (p.val - 1) + l.val = (128 * p.val + l.val + 4480) % 4608; omega

/-! ## The products -/

theorem ones_at (j : Fin 176) (l : Fin 128) : (k0_pay31 : FVec Ideal S176x128 .bf16) (ix2 j l) = if 160 ≤ j.val ∧ j.val < 163 then (1 : EReal) else 0 := by
  have hj := j.isLt
  pointwise [k0_pay31]
  by_cases h : j.val < 160
  · rw [dif_pos h, if_neg (by omega)]
  · rw [dif_neg h]
    obtain ⟨i, hi, hi'⟩ : ∃ i, i < 16 ∧ j.val = 160 + i := ⟨j.val - 160, by omega, by omega⟩
    rw [hi']
    show ((((BitVec.setWidth 32 (IntOp.cmpi .slt (BitVec.ofNat 32 (160 + i - 160)) 3#32)).toInt : ℤ) : ℝ) : EReal) = _
    have hc : (BitVec.setWidth 32 (IntOp.cmpi .slt (BitVec.ofNat 32 (160 + i - 160)) 3#32)).toInt = if i < 3 then 1 else 0 := by
      interval_cases i <;> rfl
    rw [hc]
    by_cases h3 : i < 3
    · rw [if_pos h3, if_pos (by omega)]; simp
    · rw [if_neg h3, if_neg (by omega)]; simp

theorem aug_sum (W : Words) (m : Fin 4608) (h : ∃ r : ℝ, kfK W m = (r : EReal)) :
    (∑ j : Fin 176, augK W j m * (if 160 ≤ j.val ∧ j.val < 163 then (1 : EReal) else 0)) = kfK W m := by
  obtain ⟨r, hr⟩ := h
  rw [Fin.sum_univ_two_halves 160 16 rfl]
  have e0 : (∑ j : Fin 160, augK W ⟨j.val, by omega⟩ m * (if 160 ≤ j.val ∧ j.val < 163 then (1 : EReal) else 0)) = 0 := by
    apply Finset.sum_eq_zero
    intro j _
    rw [if_neg (by omega), mul_zero]
  have e1 : (∑ j : Fin 16, augK W ⟨160 + j.val, by omega⟩ m * (if 160 ≤ 160 + j.val ∧ 160 + j.val < 163 then (1 : EReal) else 0)) = kfK W m := by
    simp only [Fin.sum_univ_succ, Fin.sum_univ_zero, augK]
    have z : (r : EReal) - (r : EReal) = 0 := by rw [← EReal.coe_sub, sub_self]; rfl
    simp [hr, z]
  exact (congrArg₂ (· + ·) e0 e1).trans (zero_add _)

theorem pay13_at (p : Fin 36) (r : Fin 192) (l : Fin 128) (h : ∃ a : ℝ, kfK (words x) (rowTok p r) = (a : EReal)) :
    k0_pay13 k0_pay31 (keysT x p) (slab (KT x) p.succ) (ix2 r l)
      = dotF (words x) (rowTok p r) (tok p l) * kfK (words x) (rowTok p r) := by
  have e1 : ∀ j, keysT x p (ix2 r j) = augK (words x) j (rowTok p r) := fun j => keysT_at x p r j
  have e2 : ∀ j, slab (KT x) p.succ (ix3 0 j l) = qF (words x) j (tok p l) := fun j => slab_key x p j l
  have e3 : ∀ j, (k0_pay31 : FVec Ideal S176x128 .bf16) (ix2 j l) = if 160 ≤ j.val ∧ j.val < 163 then (1 : EReal) else 0 := fun j => ones_at j l
  generalize keysT x p = keys at *
  generalize slab (KT x) p.succ = q at *
  generalize (k0_pay31 : FVec Ideal S176x128 .bf16) = ones at *
  pointwise [k0_pay13]
  simp only [e1, e2, e3]
  rw [aug_sum (words x) _ h]
  congr 1
  unfold dotF
  have e4 : (∑ j : Fin 16, augK (words x) ⟨160 + j.val, by omega⟩ (rowTok p r) * (0 : EReal)) = 0 :=
    Finset.sum_eq_zero fun j _ => mul_zero _
  have e5 : ∀ j : Fin 160, augK (words x) ⟨j.val, by omega⟩ (rowTok p r) = qF (words x) j (rowTok p r) := by
    intro j
    unfold augK
    rw [dif_pos j.isLt]
  simp only [e5]
  refine (congrArg₂ (· + ·) rfl e4).trans (add_zero _)

/-! ## The weights and the products with the values -/

/-- The weights of the scores `s`, among the scores `a` and `o`. -/
def probs (s a o : FVec Ideal S64x128 .f32) : FVec Ideal S64x128 .bf16 :=
  have m : FVec Ideal S1x128 .f32 := maximumf
    (shapeCast S1x128 (multiReduction .maximumf [0] S128 a 0xFF800000#32 reduces_S64x128_S128 (.inl rfl) rfl) shapeCasts_S128_S1x128)
    (shapeCast S1x128 (multiReduction .maximumf [0] S128 o 0xFF800000#32 reduces_S64x128_S128 (.inl rfl) rfl) shapeCasts_S128_S1x128)
  have M : FVec Ideal S64x128 .f32 := broadcastTo S64x128 m broadcasts_S1x128_S64x128
  have l : FVec Ideal S1x128 .f32 := addf
    (shapeCast S1x128 (multiReduction .add [0] S128 (exp2 (subf a M)) 0x00000000#32 reduces_S64x128_S128 (.inl rfl) rfl) shapeCasts_S128_S1x128)
    (shapeCast S1x128 (multiReduction .add [0] S128 (exp2 (subf o M)) 0x00000000#32 reduces_S64x128_S128 (.inl rfl) rfl) shapeCasts_S128_S1x128)
  truncf .bf16 (mulf (exp2 (subf s M)) (broadcastTo S64x128 (divf (broadcast S1x128 (Scalar.ofBits .f32 0x3F800000#32)) l) broadcasts_S1x128_S64x128)) bitsLt_bf16_f32

/-- The 256 rows of weights over the two tiles of values. -/
def bandP (v3 : IVec S64x128 1) (z pa po : FVec Ideal S64x128 .bf16) : FVec Ideal S256x128 .bf16 :=
  concatenate S256x128 0 [⟨S64x128, z⟩, ⟨S64x128, select v3 pa z⟩, ⟨S64x128, select v3 po pa⟩, ⟨S64x128, select v3 z po⟩]
    concatenates_S64x128_S64x128_S64x128_S64x128_S256x128_d0

/-- The values of two tiles side by side. -/
def valsP (v0 v1 : Vec Ideal S1x160x128 .bf16) : FVec Ideal S160x256 .bf16 :=
  concatenate S160x256 1 [⟨S160x128, shapeCast S160x128 v0 shapeCasts_S1x160x128_S160x128⟩,
    ⟨S160x128, shapeCast S160x128 v1 shapeCasts_S1x160x128_S160x128⟩] concatenates_S160x128_S160x128_S160x256_d1

def mm (v : FVec Ideal S160x256 .bf16) (p : FVec Ideal S256x128 .bf16) : FVec Ideal S160x128 .bf16 :=
  truncf .bf16 (matmul dot_S160x256_S256x128_S160x128_1_0_0_1_n_n none v p (constant S160x128 .f32 0x00000000#32)) bitsLt_bf16_f32

theorem pay19_eq (v3 : IVec S64x128 1) (v8 : IVec S64x128 32) (v14 : FVec Ideal S64x128 .f32) (z : FVec Ideal S64x128 .bf16)
    (y1 y2 a : FVec Ideal S64x128 .f32) (thr : IVec S64x128 32) (v0 v1 : Vec Ideal S1x160x128 .bf16) :
    k0_pay19 v3 v8 v14 z y1 y2 a thr v0 v1
      = mm (valsP v0 v1) (bandP v3 z (probs a a (select (cmpi .sge v8 thr) (select v3 y1 y2) v14))
          (probs (select (cmpi .sge v8 thr) (select v3 y1 y2) v14) a (select (cmpi .sge v8 thr) (select v3 y1 y2) v14))) := rfl

theorem bot_bits : Ideal.ofBits .f32 0xFF800000#32 = ⊥ := by
  simp [Ideal.ofBits, Ideal.ieee]

theorem probs_at (s a o : FVec Ideal S64x128 .f32) (k : Fin 64) (l : Fin 128) :
    probs s a o (ix2 k l)
      = Ideal.exp2 (s (ix2 k l) - max (Finset.univ.fold max ⊥ fun i : Fin 64 => a (ix2 i l)) (Finset.univ.fold max ⊥ fun i : Fin 64 => o (ix2 i l)))
        * Ideal.div 1 ((∑ i : Fin 64, Ideal.exp2 (a (ix2 i l) - max (Finset.univ.fold max ⊥ fun i : Fin 64 => a (ix2 i l)) (Finset.univ.fold max ⊥ fun i : Fin 64 => o (ix2 i l))))
            + ∑ i : Fin 64, Ideal.exp2 (o (ix2 i l) - max (Finset.univ.fold max ⊥ fun i : Fin 64 => a (ix2 i l)) (Finset.univ.fold max ⊥ fun i : Fin 64 => o (ix2 i l)))) := by
  have hb : Ideal.ofBits .f32 4286578688#32 = ⊥ := bot_bits
  pointwise [probs]
  rw [hb]
  rfl

theorem mm_at (v : FVec Ideal S160x256 .bf16) (p : FVec Ideal S256x128 .bf16) (j : Fin 160) (l : Fin 128) :
    mm v p (ix2 j l) = ((∑ i : Fin 64, v (ix2 j ⟨i.val, by omega⟩) * p (ix2 ⟨i.val, by omega⟩ l))
      + (∑ i : Fin 64, v (ix2 j ⟨64 + i.val, by omega⟩) * p (ix2 ⟨64 + i.val, by omega⟩ l)))
      + ((∑ i : Fin 64, v (ix2 j ⟨128 + i.val, by omega⟩) * p (ix2 ⟨128 + i.val, by omega⟩ l))
      + (∑ i : Fin 64, v (ix2 j ⟨192 + i.val, by omega⟩) * p (ix2 ⟨192 + i.val, by omega⟩ l))) := by
  have e : mm v p (ix2 j l) = ∑ i : Fin 256, v (ix2 j i) * p (ix2 i l) := by pointwise [mm]
  rw [e, Fin.sum_univ_two_halves 128 128 rfl, Fin.sum_univ_two_halves 64 64 rfl,
    Fin.sum_univ_two_halves 64 64 rfl (fun i : Fin 128 => v (ix2 j ⟨128 + i.val, by omega⟩) * p (ix2 ⟨128 + i.val, by omega⟩ l))]
  simp only [← Nat.add_assoc]

theorem valsP_at (v0 v1 : Vec Ideal S1x160x128 .bf16) (j : Fin 160) (i : Fin 256) :
    valsP v0 v1 (ix2 j i) = if h : i.val < 128 then v0 (ix3 0 j ⟨i.val, h⟩) else v1 (ix3 0 j ⟨i.val - 128, by omega⟩) := by
  pointwise [valsP]

theorem bandP_at (v3 : IVec S64x128 1) (z pa po : FVec Ideal S64x128 .bf16) (i : Fin 256) (l : Fin 128) :
    bandP v3 z pa po (ix2 i l) = if h : i.val < 64 then z (ix2 ⟨i.val, h⟩ l)
      else if h : i.val - 64 < 64 then Scalar.select (v3 (ix2 ⟨i.val - 64, h⟩ l)) (pa (ix2 ⟨i.val - 64, h⟩ l)) (z (ix2 ⟨i.val - 64, h⟩ l))
      else if h : i.val - 64 - 64 < 64 then Scalar.select (v3 (ix2 ⟨i.val - 64 - 64, h⟩ l)) (po (ix2 ⟨i.val - 64 - 64, h⟩ l)) (pa (ix2 ⟨i.val - 64 - 64, h⟩ l))
      else Scalar.select (v3 (ix2 ⟨i.val - 64 - 64 - 64, by omega⟩ l)) (z (ix2 ⟨i.val - 64 - 64 - 64, by omega⟩ l)) (po (ix2 ⟨i.val - 64 - 64 - 64, by omega⟩ l)) := by
  pointwise [bandP]

/-- The products of a token of the left half: its keys are the last half of the tile before, then the first half. -/
theorem left_at (v3 : IVec S64x128 1) (z pa po : FVec Ideal S64x128 .bf16) (v0 v1 : Vec Ideal S1x160x128 .bf16) (j : Fin 160) (l : Fin 128)
    (h3 : ∀ k : Fin 64, v3 (ix2 k l) = 1#1) (hz : ∀ k : Fin 64, z (ix2 k l) = (0 : EReal)) :
    mm (valsP v0 v1) (bandP v3 z pa po) (ix2 j l)
      = (∑ k : Fin 64, v0 (ix3 0 j ⟨64 + k.val, by omega⟩) * pa (ix2 k l)) + ∑ k : Fin 64, v1 (ix3 0 j ⟨k.val, by omega⟩) * po (ix2 k l) := by
  rw [mm_at]
  have e0 : (∑ i : Fin 64, valsP v0 v1 (ix2 j ⟨i.val, by omega⟩) * bandP v3 z pa po (ix2 ⟨i.val, by omega⟩ l)) = (0 : EReal) :=
    Finset.sum_eq_zero fun i _ => by
      rw [bandP_at, dif_pos (show (⟨i.val, by omega⟩ : Fin 256).val < 64 from i.isLt), hz]
      exact mul_zero _
  have e1 : (∑ i : Fin 64, valsP v0 v1 (ix2 j ⟨64 + i.val, by omega⟩) * bandP v3 z pa po (ix2 ⟨64 + i.val, by omega⟩ l))
      = ∑ k : Fin 64, v0 (ix3 0 j ⟨64 + k.val, by omega⟩) * pa (ix2 k l) :=
    Finset.sum_congr rfl fun i _ => by
      rw [bandP_at, valsP_at, dif_pos (show 64 + i.val < 128 by omega), dif_neg (show ¬ 64 + i.val < 64 by omega),
        dif_pos (show 64 + i.val - 64 < 64 by omega), h3]
      have e : (⟨64 + i.val - 64, by omega⟩ : Fin 64) = i := Fin.ext (by show 64 + i.val - 64 = i.val; omega)
      rw [e]
      rfl
  have e2 : (∑ i : Fin 64, valsP v0 v1 (ix2 j ⟨128 + i.val, by omega⟩) * bandP v3 z pa po (ix2 ⟨128 + i.val, by omega⟩ l))
      = ∑ k : Fin 64, v1 (ix3 0 j ⟨k.val, by omega⟩) * po (ix2 k l) :=
    Finset.sum_congr rfl fun i _ => by
      rw [bandP_at, valsP_at, dif_neg (show ¬ 128 + i.val < 128 by omega), dif_neg (show ¬ 128 + i.val < 64 by omega),
        dif_neg (show ¬ 128 + i.val - 64 < 64 by omega), dif_pos (show 128 + i.val - 64 - 64 < 64 by omega), h3]
      have e : (⟨128 + i.val - 64 - 64, by omega⟩ : Fin 64) = i := Fin.ext (by show 128 + i.val - 64 - 64 = i.val; omega)
      have e' : (⟨128 + i.val - 128, by omega⟩ : Fin 128) = ⟨i.val, by omega⟩ := Fin.ext (by show 128 + i.val - 128 = i.val; omega)
      rw [e, e']
      rfl
  have e3 : (∑ i : Fin 64, valsP v0 v1 (ix2 j ⟨192 + i.val, by omega⟩) * bandP v3 z pa po (ix2 ⟨192 + i.val, by omega⟩ l)) = (0 : EReal) :=
    Finset.sum_eq_zero fun i _ => by
      rw [bandP_at, dif_neg (show ¬ 192 + i.val < 64 by omega),
        dif_neg (show ¬ 192 + i.val - 64 < 64 by omega), dif_neg (show ¬ 192 + i.val - 64 - 64 < 64 by omega), h3, hz]
      exact mul_zero _
  refine (congrArg₂ (· + ·) (congrArg₂ (· + ·) e0 e1) (congrArg₂ (· + ·) e2 e3)).trans ?_
  show (0 : EReal) + _ + (_ + 0) = _
  rw [zero_add, add_zero]

/-- The products of a token of the right half: its keys are the tile's two halves. -/
theorem right_at (v3 : IVec S64x128 1) (z pa po : FVec Ideal S64x128 .bf16) (v0 v1 : Vec Ideal S1x160x128 .bf16) (j : Fin 160) (l : Fin 128)
    (h3 : ∀ k : Fin 64, v3 (ix2 k l) = 0#1) (hz : ∀ k : Fin 64, z (ix2 k l) = (0 : EReal)) :
    mm (valsP v0 v1) (bandP v3 z pa po) (ix2 j l)
      = (∑ k : Fin 64, v1 (ix3 0 j ⟨k.val, by omega⟩) * pa (ix2 k l)) + ∑ k : Fin 64, v1 (ix3 0 j ⟨64 + k.val, by omega⟩) * po (ix2 k l) := by
  rw [mm_at]
  have e0 : (∑ i : Fin 64, valsP v0 v1 (ix2 j ⟨i.val, by omega⟩) * bandP v3 z pa po (ix2 ⟨i.val, by omega⟩ l)) = (0 : EReal) :=
    Finset.sum_eq_zero fun i _ => by
      rw [bandP_at, dif_pos (show (⟨i.val, by omega⟩ : Fin 256).val < 64 from i.isLt), hz]
      exact mul_zero _
  have e1 : (∑ i : Fin 64, valsP v0 v1 (ix2 j ⟨64 + i.val, by omega⟩) * bandP v3 z pa po (ix2 ⟨64 + i.val, by omega⟩ l)) = (0 : EReal) :=
    Finset.sum_eq_zero fun i _ => by
      rw [bandP_at, dif_neg (show ¬ 64 + i.val < 64 by omega), dif_pos (show 64 + i.val - 64 < 64 by omega), h3, hz]
      exact mul_zero _
  have e2 : (∑ i : Fin 64, valsP v0 v1 (ix2 j ⟨128 + i.val, by omega⟩) * bandP v3 z pa po (ix2 ⟨128 + i.val, by omega⟩ l))
      = ∑ k : Fin 64, v1 (ix3 0 j ⟨k.val, by omega⟩) * pa (ix2 k l) :=
    Finset.sum_congr rfl fun i _ => by
      rw [bandP_at, valsP_at, dif_neg (show ¬ 128 + i.val < 128 by omega), dif_neg (show ¬ 128 + i.val < 64 by omega),
        dif_neg (show ¬ 128 + i.val - 64 < 64 by omega), dif_pos (show 128 + i.val - 64 - 64 < 64 by omega), h3]
      have e : (⟨128 + i.val - 64 - 64, by omega⟩ : Fin 64) = i := Fin.ext (by show 128 + i.val - 64 - 64 = i.val; omega)
      have e' : (⟨128 + i.val - 128, by omega⟩ : Fin 128) = ⟨i.val, by omega⟩ := Fin.ext (by show 128 + i.val - 128 = i.val; omega)
      rw [e, e']
      rfl
  have e3 : (∑ i : Fin 64, valsP v0 v1 (ix2 j ⟨192 + i.val, by omega⟩) * bandP v3 z pa po (ix2 ⟨192 + i.val, by omega⟩ l))
      = ∑ k : Fin 64, v1 (ix3 0 j ⟨64 + k.val, by omega⟩) * po (ix2 k l) :=
    Finset.sum_congr rfl fun i _ => by
      rw [bandP_at, valsP_at, dif_neg (show ¬ 192 + i.val < 128 by omega), dif_neg (show ¬ 192 + i.val < 64 by omega),
        dif_neg (show ¬ 192 + i.val - 64 < 64 by omega), dif_neg (show ¬ 192 + i.val - 64 - 64 < 64 by omega), h3]
      have e : (⟨192 + i.val - 64 - 64 - 64, by omega⟩ : Fin 64) = i := Fin.ext (by show 192 + i.val - 64 - 64 - 64 = i.val; omega)
      have e' : (⟨192 + i.val - 128, by omega⟩ : Fin 128) = ⟨64 + i.val, by omega⟩ := Fin.ext (by show 192 + i.val - 128 = 64 + i.val; omega)
      rw [e, e']
      rfl
  refine (congrArg₂ (· + ·) (congrArg₂ (· + ·) e0 e1) (congrArg₂ (· + ·) e2 e3)).trans ?_
  show (0 : EReal) + 0 + (_ + _) = _
  rw [zero_add, zero_add]

end Cert.KernelIdeal.Hand

end
-- ==== Proof.Masks.lean ====
/- The kernel's masks, read as facts about positions, and its masked scores. -/
module

public import proofs.«01_k».proof.Proof.Attend
public import Idealize.ShloMosaic.Lib.WordCmp

@[expose] public section

set_option maxRecDepth 16384

noncomputable section

namespace Cert.KernelIdeal.Hand

open Cert.KernelIdeal Cert.KernelIdeal.Gen Cert.Head
open Idealize.ShloMosaic Idealize.ShloMosaic.TcCoe Idealize.SL.Sem

/-- Where the token's bucket starts, counted from the first token of its chunk. -/
def thrW (st : BitVec 32) (p l : ℕ) : BitVec 32 :=
  IntOp.subi (IntOp.subi st (Scalar.muli (Scf.iv 0#32 1#32 p) 128#32))
    (Scalar.select (IntOp.cmpi CmpIPredicate.slt (BitVec.ofNat 32 l) 64#32) 0#32 64#32)

theorem slt_lit {a b : ℕ} (ha : a < 2 ^ 31) (hb : b < 2 ^ 31) :
    IntOp.cmpi CmpIPredicate.slt (BitVec.ofNat 32 a) (BitVec.ofNat 32 b) = BitVec.ofBool (decide (a < b)) := by
  show BitVec.ofBool (BitVec.slt _ _) = _
  congr 1
  rw [BitVec.slt, WordCmp.toInt_ofNat_of_lt (by simpa using ha), WordCmp.toInt_ofNat_of_lt (by simpa using hb)]
  simp

theorem select_bool {α : Type} (b : Bool) (x y : α) : Scalar.select (BitVec.ofBool b) x y = if b = true then x else y := by
  cases b <;> rfl

theorem thrW_toInt (st : BitVec 32) (p l : ℕ) (hs : st.toNat < 4608) (hp : p < 36) (hl : l < 128) :
    (thrW st p l).toInt = (st.toNat : ℤ) - 64 * ((128 * p + l) / 64 : ℕ) := by
  have h1 : Scf.iv 0#32 1#32 p = BitVec.ofNat 32 p := by
    unfold Scf.iv; simp
  have h2 : Scalar.muli (BitVec.ofNat 32 p) 128#32 = BitVec.ofNat 32 (128 * p) := by
    show BitVec.ofNat 32 p * BitVec.ofNat 32 128 = _
    rw [← BitVec.ofNat_mul, Nat.mul_comm]
  have h3 : Scalar.select (IntOp.cmpi CmpIPredicate.slt (BitVec.ofNat 32 l) 64#32) 0#32 64#32 = BitVec.ofNat 32 (if l < 64 then 0 else 64) := by
    rw [slt_lit (by omega) (by omega), select_bool]
    by_cases h : l < 64 <;> simp [h]
  unfold thrW
  rw [h1, h2, h3]
  show (st - BitVec.ofNat 32 (128 * p) - BitVec.ofNat 32 (if l < 64 then 0 else 64)).toInt = _
  rw [BitVec.toInt_eq_toNat_cond, BitVec.toNat_sub, BitVec.toNat_sub, BitVec.toNat_ofNat, BitVec.toNat_ofNat]
  by_cases h : l < 64
  · rw [if_pos h]; omega
  · rw [if_neg h]; omega

theorem open_prev (st : BitVec 32) (p l k : ℕ) (hs : st.toNat < 4608) (hp : p < 36) (hl : l < 128) (hk : k < 64) :
    IntOp.cmpi CmpIPredicate.sge (BitVec.ofNat 32 k) (IntOp.addi (thrW st p l) 64#32)
      = BitVec.ofBool (decide (st.toNat + 64 ≤ 64 * ((128 * p + l) / 64) + k)) := by
  show BitVec.ofBool (BitVec.sle (thrW st p l + 64#32) (BitVec.ofNat 32 k)) = _
  congr 1
  have ht := thrW_toInt st p l hs hp hl
  rw [BitVec.toInt_eq_toNat_cond] at ht
  have hlt := (thrW st p l).isLt
  rw [BitVec.sle, BitVec.toInt_eq_toNat_cond (x := thrW st p l + 64#32), BitVec.toNat_add, WordCmp.toInt_ofNat_of_lt (by simp; omega)]
  apply decide_eq_decide.mpr
  have h64 : (64#32).toNat = 64 := rfl
  rw [h64]
  split at ht <;> split <;> omega

theorem open_own (st : BitVec 32) (p l k : ℕ) (hs : st.toNat < 4608) (hp : p < 36) (hl : l < 128) (hk : k < 64) :
    IntOp.cmpi CmpIPredicate.sge
        (Scalar.select (IntOp.cmpi CmpIPredicate.slt (BitVec.ofNat 32 k) (IntOp.andi (BitVec.ofNat 32 l) 63#32)) (BitVec.ofNat 32 k) 4293918720#32)
        (thrW st p l)
      = BitVec.ofBool (decide (st.toNat ≤ 64 * ((128 * p + l) / 64) + k ∧ k < l % 64)) := by
  have h1 : IntOp.andi (BitVec.ofNat 32 l) 63#32 = BitVec.ofNat 32 (l % 64) := by
    interval_cases l <;> rfl
  rw [h1, slt_lit (by omega) (by omega), select_bool]
  have ht := thrW_toInt st p l hs hp hl
  by_cases h : k < l % 64
  · rw [if_pos (by simp [h])]
    show BitVec.ofBool (BitVec.sle (thrW st p l) (BitVec.ofNat 32 k)) = _
    congr 1
    rw [BitVec.sle, ht, WordCmp.toInt_ofNat_of_lt (by simp; omega)]
    apply decide_eq_decide.mpr
    omega
  · rw [if_neg (by simp [h])]
    show BitVec.ofBool (BitVec.sle (thrW st p l) 4293918720#32) = _
    congr 1
    have hm : (4293918720#32 : BitVec 32).toInt = -1048576 := by decide
    rw [BitVec.sle, ht, hm]
    apply decide_eq_decide.mpr
    omega

theorem self_own (l k : ℕ) (hl : l < 128) (hk : k < 64) :
    IntOp.cmpi CmpIPredicate.eq (BitVec.ofNat 32 k) (IntOp.andi (BitVec.ofNat 32 l) 63#32) = BitVec.ofBool (decide (k = l % 64)) := by
  have h1 : IntOp.andi (BitVec.ofNat 32 l) 63#32 = BitVec.ofNat 32 (l % 64) := by
    interval_cases l <;> rfl
  rw [h1]
  show BitVec.ofBool (BitVec.ofNat 32 k == BitVec.ofNat 32 (l % 64)) = _
  congr 1
  rw [show (BitVec.ofNat 32 k == BitVec.ofNat 32 (l % 64)) = decide (BitVec.ofNat 32 k = BitVec.ofNat 32 (l % 64)) from rfl]
  exact decide_eq_decide.mpr (WordCmp.ofNat_eq_ofNat_iff (by omega) (by omega))

/-- The constants that stand for a masked score, times 1 / log 2. -/
def selfK : EReal := (((-100000) * (Real.log 2)⁻¹ : ℝ) : EReal)
def otherK : EReal := (((-1000000000) * (Real.log 2)⁻¹ : ℝ) : EReal)

theorem named_self : (Named.named κ "self_mask" 3356287840#32 : Ideal .f32) = selfK :=
  IdealRules.named_const.ideal_named_scalar _ _ _ _ rfl
theorem named_other : (Named.named κ "other_mask" 3467377551#32 : Ideal .f32) = otherK :=
  IdealRules.named_const.ideal_named_scalar _ _ _ _ rfl

/-- The kernel's score of key `k` of the window of token `n`. -/
def scoreK (W : Words) (n : Fin 4608) (k : Fin 128) : EReal :=
  masked W n k (dotF W (key n k) n * kfK W (key n k)) selfK otherK

variable (x : Vec Ideal S1x1x11x36x8x128 .i32)

/-- The previous half of the scores of tile `p`. -/
def aV (p : Fin 36) : FVec Ideal S64x128 .f32 :=
  k0_pay17 (iota .tc S64x128 32 [1] iota_S64x128_d1_w32) (iota .tc S64x128 32 [0] iota_S64x128_d0_w32) k0_pay28
    k0_pay31 0#32 1#32 ⟨p.val, by rw [trips2]; exact p.isLt⟩ (keysT x p) (slab (KT x) p.succ) (startT x p)

/-- The own half of the scores of tile `p`. -/
def oV (p : Fin 36) : FVec Ideal S64x128 .f32 :=
  select (cmpi .sge k0_pay29 (k0_pay18 (iota .tc S64x128 32 [1] iota_S64x128_d1_w32) 0#32 1#32 ⟨p.val, by rw [trips2]; exact p.isLt⟩ (startT x p)))
    (select k0_pay28 (k0_pay14 k0_pay31 (keysT x p) (slab (KT x) p.succ)) (k0_pay15 k0_pay31 (keysT x p) (slab (KT x) p.succ))) k0_pay30

theorem st_at (p : Fin 36) (l : Fin 128) : startT x p (ix6 0 0 0 0 0 l) = stW (words x) (tok p l) := by
  unfold stW; rw [tile_tok, lane_tok]; rfl

theorem left_iff (k : Fin 64) (l : Fin 128) : k0_pay28 (ix2 k l) = BitVec.ofBool (decide (l.val < 64)) := by
  have hl := l.isLt
  have e : k0_pay28 (ix2 k l) = IntOp.cmpi CmpIPredicate.slt (BitVec.ofNat 32 l.val) 64#32 := by pointwise [k0_pay28]
  rw [e, slt_lit (by omega) (by omega)]

theorem aV_at (hG : Fine (words x)) (p : Fin 36) (k : Fin 64) (l : Fin 128) :
    aV x p (ix2 k l) = scoreK (words x) (tok p l) ⟨k.val, by omega⟩ := by
  have hp := p.isLt
  have hk := k.isLt
  have hl := l.isLt
  have hs := hG.start (tok p l)
  have hn : (tok p l).val = 128 * p.val + l.val := rfl
  have hy := fun r : Fin 192 => pay13_at x p r l ⟨_, hG.kfK _⟩
  have hst := st_at x p l
  unfold aV
  generalize keysT x p = keys at *
  generalize slab (KT x) p.succ = q at *
  generalize startT x p = st at *
  generalize (k0_pay31 : FVec Ideal S176x128 .bf16) = ones at *
  have e : k0_pay17 (iota .tc S64x128 32 [1] iota_S64x128_d1_w32) (iota .tc S64x128 32 [0] iota_S64x128_d0_w32) k0_pay28
      ones 0#32 1#32 ⟨p.val, by rw [trips2]; exact p.isLt⟩ keys q st (ix2 k l)
    = Scalar.select (IntOp.cmpi .sge (BitVec.ofNat 32 k.val) (IntOp.addi (thrW (st (ix6 0 0 0 0 0 l)) p.val l.val) 64#32))
      (Scalar.select (k0_pay28 (ix2 k l)) (k0_pay13 ones keys q (ix2 ⟨k.val, by omega⟩ l))
        (k0_pay13 ones keys q (ix2 ⟨64 + k.val, by omega⟩ l)))
      (Named.named κ "other_mask" 3467377551#32) := by
    pointwise [k0_pay17, k0_pay16, k0_pay14]
    rfl
  rw [e, hst, open_prev _ _ _ _ (by omega) hp hl hk, select_bool, left_iff, select_bool, hy, hy, named_other]
  unfold scoreK
  have hself : ¬ Self (tok p l) ⟨k.val, by omega⟩ := by
    unfold Self; rw [hn]; dsimp only; omega
  by_cases ho : (stW (words x) (tok p l)).toNat + 64 ≤ 64 * ((128 * p.val + l.val) / 64) + k.val
  · rw [if_pos (by simpa using ho)]
    have hopen : Open (words x) (tok p l) ⟨k.val, by omega⟩ := by
      refine ⟨ho, ?_⟩
      rw [hn]; dsimp only; omega
    rw [masked_open _ hopen]
    by_cases h : l.val < 64
    · rw [if_pos (by simpa using h)]
      have ek : rowTok p ⟨k.val, by omega⟩ = key (tok p l) ⟨k.val, by omega⟩ := by
        apply Fin.ext; show (128 * p.val + k.val + 4544) % 4608 = (64 * ((128 * p.val + l.val) / 64) + k.val + 4544) % 4608; omega
      rw [ek]
    · rw [if_neg (by simpa using h)]
      have ek : rowTok p ⟨64 + k.val, by omega⟩ = key (tok p l) ⟨k.val, by omega⟩ := by
        apply Fin.ext; show (128 * p.val + (64 + k.val) + 4544) % 4608 = (64 * ((128 * p.val + l.val) / 64) + k.val + 4544) % 4608; omega
      rw [ek]
  · rw [if_neg (by simpa using ho)]
    rw [masked_other _ (fun h => ho h.1) hself]

theorem oV_at (hG : Fine (words x)) (p : Fin 36) (k : Fin 64) (l : Fin 128) :
    oV x p (ix2 k l) = scoreK (words x) (tok p l) ⟨64 + k.val, by omega⟩ := by
  have hp := p.isLt
  have hk := k.isLt
  have hl := l.isLt
  have hs := hG.start (tok p l)
  have hn : (tok p l).val = 128 * p.val + l.val := rfl
  have hy := fun r : Fin 192 => pay13_at x p r l ⟨_, hG.kfK _⟩
  have hst := st_at x p l
  unfold oV
  generalize keysT x p = keys at *
  generalize slab (KT x) p.succ = q at *
  generalize startT x p = st at *
  generalize (k0_pay31 : FVec Ideal S176x128 .bf16) = ones at *
  have e : select (cmpi .sge k0_pay29 (k0_pay18 (iota .tc S64x128 32 [1] iota_S64x128_d1_w32) 0#32 1#32 ⟨p.val, by rw [trips2]; exact p.isLt⟩ st))
      (select k0_pay28 (k0_pay14 ones keys q) (k0_pay15 ones keys q)) k0_pay30 (ix2 k l)
    = Scalar.select (IntOp.cmpi .sge (Scalar.select (IntOp.cmpi .slt (BitVec.ofNat 32 k.val) (IntOp.andi (BitVec.ofNat 32 l.val) 63#32)) (BitVec.ofNat 32 k.val) 4293918720#32)
        (thrW (st (ix6 0 0 0 0 0 l)) p.val l.val))
      (Scalar.select (k0_pay28 (ix2 k l)) (k0_pay13 ones keys q (ix2 ⟨64 + k.val, by omega⟩ l))
        (k0_pay13 ones keys q (ix2 ⟨128 + k.val, by omega⟩ l)))
      (Scalar.select (IntOp.cmpi .eq (BitVec.ofNat 32 k.val) (IntOp.andi (BitVec.ofNat 32 l.val) 63#32))
        (Named.named κ "self_mask" 3356287840#32) (Named.named κ "other_mask" 3467377551#32)) := by
    pointwise [k0_pay18, k0_pay16, k0_pay14, k0_pay15, k0_pay29, k0_pay30]
    rfl
  rw [e, hst, open_own _ _ _ _ (by omega) hp hl hk, select_bool, left_iff, select_bool, hy, hy, self_own _ _ hl hk, select_bool, named_self, named_other]
  unfold scoreK
  by_cases ho : (stW (words x) (tok p l)).toNat ≤ 64 * ((128 * p.val + l.val) / 64) + k.val ∧ k.val < l.val % 64
  · rw [if_pos (by simpa using ho)]
    have hopen : Open (words x) (tok p l) ⟨64 + k.val, by omega⟩ := by
      refine ⟨?_, ?_⟩ <;> rw [hn] <;> dsimp only <;> omega
    rw [masked_open _ hopen]
    by_cases h : l.val < 64
    · rw [if_pos (by simpa using h)]
      have ek : rowTok p ⟨64 + k.val, by omega⟩ = key (tok p l) ⟨64 + k.val, by omega⟩ := by
        apply Fin.ext; show (128 * p.val + (64 + k.val) + 4544) % 4608 = (64 * ((128 * p.val + l.val) / 64) + (64 + k.val) + 4544) % 4608; omega
      rw [ek]
    · rw [if_neg (by simpa using h)]
      have ek : rowTok p ⟨128 + k.val, by omega⟩ = key (tok p l) ⟨64 + k.val, by omega⟩ := by
        apply Fin.ext; show (128 * p.val + (128 + k.val) + 4544) % 4608 = (64 * ((128 * p.val + l.val) / 64) + (64 + k.val) + 4544) % 4608; omega
      rw [ek]
  · rw [if_neg (by simpa using ho)]
    have hopen : ¬ Open (words x) (tok p l) ⟨64 + k.val, by omega⟩ := by
      rintro ⟨h1, h2⟩
      rw [hn] at h1 h2
      dsimp only at h1 h2
      exact ho ⟨by omega, by omega⟩
    by_cases h : k.val = l.val % 64
    · rw [if_pos (by simpa using h)]
      rw [masked_self _ hopen (by unfold Self; rw [hn]; dsimp only; omega)]
    · rw [if_neg (by simpa using h)]
      rw [masked_other _ hopen (by unfold Self; rw [hn]; dsimp only; omega)]

/-! ## The result -/

theorem scoreK_real {W : Words} (h : Fine W) (n : Fin 4608) (k : Fin 128) : scoreK W n k = ((zR W n k * (Real.log 2)⁻¹ : ℝ) : EReal) := by
  unfold scoreK zR
  by_cases ho : Open W n k
  · rw [masked_open _ ho, masked_open _ ho, h.dot, h.kfK, ← EReal.coe_mul, ← mul_assoc, ← mul_assoc, ← mul_assoc]
  · by_cases hs : Self n k
    · rw [masked_self _ ho hs, masked_self _ ho hs]; rfl
    · rw [masked_other _ ho hs, masked_other _ ho hs]; rfl

theorem oT_eq (p : Fin 36) :
    oT x p = mm (valsP (slab (VT x) p.castSucc) (slab (VT x) p.succ))
      (bandP k0_pay28 k0_pay32 (probs (aV x p) (aV x p) (oV x p)) (probs (oV x p) (aV x p) (oV x p))) := by
  unfold oT attT
  rw [pay19_eq]
  rfl

/-- What the kernel stores for a token is attention. -/
theorem oT_at (hG : Fine (words x)) (p : Fin 36) (j : Fin 160) (l : Fin 128) :
    oT x p (ix2 j l) = attention (words x) (tok p l) j := by
  have hp := p.isLt
  have hl := l.isLt
  have ha : ∀ k : Fin 64, aV x p (ix2 k l) = ((zR (words x) (tok p l) ⟨k.val, by omega⟩ * (Real.log 2)⁻¹ : ℝ) : EReal) :=
    fun k => (aV_at x hG p k l).trans (scoreK_real hG _ _)
  have ho : ∀ k : Fin 64, oV x p (ix2 k l) = ((zR (words x) (tok p l) ⟨64 + k.val, by omega⟩ * (Real.log 2)⁻¹ : ℝ) : EReal) :=
    fun k => (oV_at x hG p k l).trans (scoreK_real hG _ _)
  have hpa : ∀ k : Fin 64, probs (aV x p) (aV x p) (oV x p) (ix2 k l) = (weight (zR (words x) (tok p l)) ⟨k.val, by omega⟩ : EReal) := by
    intro k
    rw [probs_at]
    exact halves_weight (zR (words x) (tok p l)) (fun i => aV x p (ix2 i l)) (fun i => oV x p (ix2 i l)) ha ho _ ⟨k.val, by omega⟩ (ha k)
  have hpo : ∀ k : Fin 64, probs (oV x p) (aV x p) (oV x p) (ix2 k l) = (weight (zR (words x) (tok p l)) ⟨64 + k.val, by omega⟩ : EReal) := by
    intro k
    rw [probs_at]
    exact halves_weight (zR (words x) (tok p l)) (fun i => aV x p (ix2 i l)) (fun i => oV x p (ix2 i l)) ha ho _ ⟨64 + k.val, by omega⟩ (ho k)
  have hz : ∀ k : Fin 64, (k0_pay32 : FVec Ideal S64x128 .bf16) (ix2 k l) = (0 : EReal) := fun k => by pointwise [k0_pay32]
  unfold attention
  rw [oT_eq, Fin.sum_univ_two_halves 64 64 rfl]
  by_cases h : l.val < 64
  · rw [left_at _ _ _ _ _ _ _ _ (fun k => by rw [left_iff]; simp [h]) hz]
    congr 1
    · refine Finset.sum_congr rfl fun k _ => ?_
      rw [hpa, slab_val0]
      unfold vvF
      have e : (⟨(128 * p.val + (64 + k.val) + 4480) % 4608, Nat.mod_lt _ (by decide)⟩ : Fin 4608) = key (tok p l) ⟨k.val, by omega⟩ := by
        apply Fin.ext; show (128 * p.val + (64 + k.val) + 4480) % 4608 = (64 * ((128 * p.val + l.val) / 64) + k.val + 4544) % 4608; omega
      rw [e]
    · refine Finset.sum_congr rfl fun k _ => ?_
      rw [hpo, slab_val]
      unfold vvF
      have e : tok p ⟨k.val, by omega⟩ = key (tok p l) ⟨64 + k.val, by omega⟩ := by
        apply Fin.ext; show 128 * p.val + k.val = (64 * ((128 * p.val + l.val) / 64) + (64 + k.val) + 4544) % 4608; omega
      rw [e]
  · rw [right_at _ _ _ _ _ _ _ _ (fun k => by rw [left_iff]; simp [h]) hz]
    congr 1
    · refine Finset.sum_congr rfl fun k _ => ?_
      rw [hpa, slab_val]
      unfold vvF
      have e : tok p ⟨k.val, by omega⟩ = key (tok p l) ⟨k.val, by omega⟩ := by
        apply Fin.ext; show 128 * p.val + k.val = (64 * ((128 * p.val + l.val) / 64) + k.val + 4544) % 4608; omega
      rw [e]
    · refine Finset.sum_congr rfl fun k _ => ?_
      rw [hpo, slab_val]
      unfold vvF
      have e : tok p ⟨64 + k.val, by omega⟩ = key (tok p l) ⟨64 + k.val, by omega⟩ := by
        apply Fin.ext; show 128 * p.val + (64 + k.val) = (64 * ((128 * p.val + l.val) / 64) + (64 + k.val) + 4544) % 4608; omega
      rw [e]

end Cert.KernelIdeal.Hand

end
-- ==== Proof.RefRun.lean ====
/- The reference, run: what its result array holds when it ends, as the last of its valuations. -/
module

public import proofs.«01_k».proof.Proof.Gen.ReferenceIdeal.Frame

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Run from any memory with zero counters, the reference ends with `main_v93` holding what its last valuation says, and
    its argument unchanged. -/
theorem run_value : θ_run defs (onTc (τ := τ) (main (F := F))) ⟨m, fun _ => 0, ρ⟩ (fun r => ∀ c : Dev nD,
      r.2.mem ((c.tc : Thread nD τ).loc main_v93) = W21 m ρ c (Proc.devRef .tc main_v93)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h _ c => ⟨h c _ (mem_uc main_v93 (by decide)),
      (h c _ (mem_uc main_arg0 (by decide))).trans (W21_main_arg0 m ρ c)⟩)

end Cert.ReferenceIdeal.Hand

end
-- ==== Proof.RefRegion.lean ====
/- The reference's two gridless calls: each turns an array of words into the array of the fp8 codes they hold. -/
module

public import proofs.«01_k».proof.Proof.RefRun
public import proofs.«01_k».proof.Proof.Codes
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen Cert.Head
open Idealize.ShloMosaic Idealize.ShloMosaic.TcCoe Idealize.ShloMosaic.Tactic
open Idealize.SL Idealize.SL.Sem

section Any
variable {F : FTy → Type} [FloatOps F]
variable (V : (c : Dev nD) → (b : Ref sig .tc) → Buf (Elt F) ((c : Thread nD τ).loc b))

theorem idx0 : ∀ t : Fin cfg0.N, win0_0.index t = ![0, 0, 0, 0, 0, 0] ∧ win0_1.index t = ![0, 0, 0, 0, 0, 0] :=
  (by decide +kernel : ∀ t : Fin grid0.N, _)
theorem idx1 : ∀ t : Fin cfg1.N, win1_0.index t = ![0, 0, 0, 0, 0, 0] ∧ win1_1.index t = ![0, 0, 0, 0, 0, 0] :=
  (by decide +kernel : ∀ t : Fin grid1.N, _)

theorem iblk0_eq (c : Dev nD) (t : Fin cfg0.N) : iblk0 V c 0 t = V c main_v0 := by
  blk_ext! [iblk0, idx0 t]
theorem iblk1_eq (c : Dev nD) (t : Fin cfg1.N) : iblk1 V c 0 t = V c main_v4 := by
  blk_ext! [iblk1, idx1 t]

theorem final0 (c : Dev nD) : (dat0 V c).arrAt 1 cfg0.N = k0_pay1 (V c main_v0) := by
  refine (dat0 V c).arrAt_eq_of_after_last 1 t0_0 (by decide +kernel) _ fun j => ?_
  blk_simp
  rw [after0_1]
  frame_out
  rw [iblk0_eq]
theorem final1 (c : Dev nD) : (dat1 V c).arrAt 1 cfg1.N = k1_pay1 (V c main_v4) := by
  refine (dat1 V c).arrAt_eq_of_after_last 1 t1_0 (by decide +kernel) _ fun j => ?_
  blk_simp
  rw [after1_1]
  frame_out
  rw [iblk1_eq]
end Any

theorem pay_at (x : Vec Ideal S12x10x5x36x8x128 .i32) (b : Fin 12) (h : Fin 10) (d : Fin 5) (t : Fin 36) (a : Fin 32) (l : Fin 128) :
    k0_pay1 x (ix6 b h d t a l) = code (x (ix6 b h d t ⟨a.val / 4, by omega⟩ l)) (a.val % 4) := by
  show Ideal.ofBits .fp8e4m3 (bitcast S12x10x5x36x32x128 8 (shapeCast S12x10x5x36x8x128 x shapeCasts_S12x10x5x36x8x128_S12x10x5x36x8x128) bitcasts_S12x10x5x36x8x128_w32_S12x10x5x36x32x128_w8 (ix6 b h d t a l)) = _
  rw [bitcast_32_8_ix6 _ _ b h d t a l ⟨a.val / 4, by omega⟩ rfl]
  unfold code
  congr 2
  pointwise

end Cert.ReferenceIdeal.Hand

end
-- ==== Proof.RefOps.lean ====
/- The reference's host operations, stretch by stretch, each read at one index. -/
module

public import proofs.«01_k».proof.Proof.RefRun
public import proofs.«01_k».proof.Proof.Window
public import Idealize.ShloMosaic.Lib.WordCmp
public import Idealize.ShloMosaic.Lib.Pointwise

@[expose] public section

set_option maxRecDepth 16384

noncomputable section

namespace Cert.ReferenceIdeal.Hand

open Cert.ReferenceIdeal Cert.ReferenceIdeal.Gen Cert.Head
open Idealize.ShloMosaic Idealize.ShloMosaic.TcCoe Idealize.SL.Sem

variable (W : Valuation τ sig (Elt Ideal))

theorem v0_at (b : Fin 12) (h : Fin 10) (d : Fin 5) (t : Fin 36) (r : Fin 8) (l : Fin 128) :
    (StableHlo.after hostOps0 W (Proc.devRef .tc main_v0) : Vec Ideal S12x10x5x36x8x128 .i32) (ix6 b h d t r l)
      = (W (Proc.devRef .tc main_arg0) : Vec Ideal S12x10x11x36x8x128 .i32) (ix6 b h ⟨d.val, by omega⟩ t r l) := by
  after_results
  pointwise

theorem v4_at (b : Fin 12) (h : Fin 10) (d : Fin 5) (t : Fin 36) (r : Fin 8) (l : Fin 128) :
    (StableHlo.after hostOps1 W (Proc.devRef .tc main_v4) : Vec Ideal S12x10x5x36x8x128 .i32) (ix6 b h d t r l)
      = (W (Proc.devRef .tc main_arg0) : Vec Ideal S12x10x11x36x8x128 .i32) (ix6 b h ⟨5 + d.val, by omega⟩ t r l) := by
  after_results
  pointwise

theorem v3_at (b : Fin 12) (h : Fin 10) (n : Fin 4608) (j : Fin 160) :
    (StableHlo.after hostOps1 W (Proc.devRef .tc main_v3) : Vec Ideal S12x10x4608x160 .bf16) (ix4 b h n j)
      = (W (Proc.devRef .tc main_v1) : Vec Ideal S12x10x5x36x32x128 .bf16) (ix6 b h ⟨j.val / 32, by omega⟩ ⟨n.val / 128, by omega⟩ ⟨j.val % 32, by omega⟩ ⟨n.val % 128, by omega⟩) := by
  after_results
  pointwise

theorem v7_at (b : Fin 12) (h : Fin 10) (n : Fin 4608) (j : Fin 160) :
    (StableHlo.after hostOps2 W (Proc.devRef .tc main_v7) : Vec Ideal S12x10x4608x160 .bf16) (ix4 b h n j)
      = (W (Proc.devRef .tc main_v5) : Vec Ideal S12x10x5x36x32x128 .bf16) (ix6 b h ⟨j.val / 32, by omega⟩ ⟨n.val / 128, by omega⟩ ⟨j.val % 32, by omega⟩ ⟨n.val % 128, by omega⟩) := by
  after_results
  pointwise

theorem v16_at (b : Fin 12) (h : Fin 10) (n : Fin 4608) :
    (StableHlo.after hostOps2 W (Proc.devRef .tc main_v16) : Vec Ideal S12x10x4608 .f32) (ix3 b h n)
      = Ideal.ofBits .f32 ((W (Proc.devRef .tc main_arg0) : Vec Ideal S12x10x11x36x8x128 .i32) (ix6 b h 10 ⟨n.val / 128, by omega⟩ 5 ⟨n.val % 128, by omega⟩)) := by
  after_results
  pointwise

theorem v38_at (b : Fin 12) (h : Fin 10) (c : Fin 72) (i : Fin 64) :
    (StableHlo.after hostOps2 W (Proc.devRef .tc main_v38) : Vec Ideal S12x10x72x64 .i32) (ix4 b h c i)
      = (W (Proc.devRef .tc main_arg0) : Vec Ideal S12x10x11x36x8x128 .i32) (ix6 b h 10 ⟨(c.val * 64 + i.val) / 128, by omega⟩ 6 ⟨(c.val * 64 + i.val) % 128, by omega⟩) := by
  after_results
  pointwise
theorem v39_at (b : Fin 12) (h : Fin 10) (c : Fin 72) (i : Fin 64) :
    (StableHlo.after hostOps2 W (Proc.devRef .tc main_v39) : Vec Ideal S12x10x72x64 .i32) (ix4 b h c i)
      = BitVec.ofNat 32 (c.val * 64 + i.val) := by
  after_results
  pointwise

/-- The scale of every key, from the features. -/
def kScale (k : FVec Ideal S12x10x72x64x160 .bf16) : FVec Ideal S12x10x72x64 .f32 :=
  Host.divf (Host.rsqrt (addf (Host.divf (Host.reduceAdd (mulf (extf .f32 k bitsLt_bf16_f32) (extf .f32 k bitsLt_bf16_f32)) (constant S_ .f32 0x00000000#32) reducesTo_S12x10x72x64x160_S12x10x72x64_d4 h_S_)
      (broadcastInDim S12x10x72x64 ![] bcast_S_S12x10x72x64 (constant S_ .f32 0x43200000#32)))
      (broadcastInDim S12x10x72x64 ![] bcast_S_S12x10x72x64 (constant S_ .f32 0x358637BD#32))))
    (broadcastInDim S12x10x72x64 ![] bcast_S_S12x10x72x64 (Host.sqrt (constant S_ .f32 0x43200000#32)))

theorem v37_eq : (StableHlo.after hostOps2 W (Proc.devRef .tc main_v37) : FVec Ideal S12x10x72x64 .f32)
    = kScale (StableHlo.after hostOps2 W (Proc.devRef .tc main_v26)) := by
  after_results
  rfl

theorem kScale_at (k : FVec Ideal S12x10x72x64x160 .bf16) (b : Fin 12) (h : Fin 10) (c : Fin 72) (i : Fin 64) :
    kScale k (ix4 b h c i) = Ideal.div (Ideal.rsqrt (Ideal.div (∑ j : Fin 160, k (ix5 b h c i j) * k (ix5 b h c i j)) (Ideal.ofBits .f32 0x43200000#32) + eps))
      (Ideal.sqrt (Ideal.ofBits .f32 0x43200000#32)) := by
  unfold eps
  pointwise [kScale]

theorem v26_at (f : FVec Ideal S12x10x4608x160 .bf16) (h3 : W (Proc.devRef .tc main_v3) = f) (b : Fin 12) (h : Fin 10) (c : Fin 72) (i : Fin 64) (j : Fin 160) :
    (StableHlo.after hostOps2 W (Proc.devRef .tc main_v26) : FVec Ideal S12x10x72x64x160 .bf16) (ix5 b h c i j)
      = f (ix4 b h ⟨c.val * 64 + i.val, by omega⟩ ⟨j.val / 32 * 32 + j.val % 32, by omega⟩)
        * Ideal.ofBits .f32 ((W (Proc.devRef .tc main_arg0) : Vec Ideal S12x10x11x36x8x128 .i32) (ix6 b h 10 ⟨(c.val * 64 + i.val) / 128, by omega⟩ ⟨j.val / 32, by omega⟩ ⟨(c.val * 64 + i.val) % 128, by omega⟩)) := by
  subst h3
  after_results
  pointwise

theorem v44_at (b : Fin 12) (h : Fin 10) (c : Fin 72) (i : Fin 64) (j : Fin 160) :
    (StableHlo.after hostOps2_4 W (Proc.devRef .tc main_v44) : FVec Ideal S12x10x72x64x160 .bf16) (ix5 b h c i j)
      = (W (Proc.devRef .tc main_v7) : FVec Ideal S12x10x4608x160 .bf16) (ix4 b h ⟨c.val * 64 + i.val, by omega⟩ j) := by
  after_results
  pointwise

theorem v47_at (b : Fin 12) (h : Fin 10) (c : Fin 72) (i : Fin 64) :
    (StableHlo.after hostOps2_6 W (Proc.devRef .tc main_v47) : FVec Ideal S12x10x72x64 .f32) (ix4 b h c i)
      = (W (Proc.devRef .tc main_v16) : FVec Ideal S12x10x4608 .f32) (ix3 b h ⟨c.val * 64 + i.val, by omega⟩) := by
  after_results
  pointwise

/-! ## Windows -/

/-- Every chunk replaced by the one before it. -/
def roll5 (k : FVec Ideal S12x10x72x64x160 .bf16) : FVec Ideal S12x10x72x64x160 .bf16 :=
  concatenate S12x10x72x64x160 2 [⟨S12x10x1x64x160, extractStridedSlice S12x10x1x64x160 ![0, 0, 71, 0, 0] k slices_S12x10x72x64x160_S12x10x1x64x160_0_0_71_0_0⟩,
    ⟨S12x10x71x64x160, extractStridedSlice S12x10x71x64x160 ![0, 0, 0, 0, 0] k slices_S12x10x72x64x160_S12x10x71x64x160_0_0_0_0_0⟩] concatenates_S12x10x1x64x160_S12x10x71x64x160_S12x10x72x64x160_d2
/-- Every chunk replaced by the one before it. -/
def rollF (k : FVec Ideal S12x10x72x64 .f32) : FVec Ideal S12x10x72x64 .f32 :=
  concatenate S12x10x72x64 2 [⟨S12x10x1x64, extractStridedSlice S12x10x1x64 ![0, 0, 71, 0] k slices_S12x10x72x64_S12x10x1x64_0_0_71_0⟩,
    ⟨S12x10x71x64, extractStridedSlice S12x10x71x64 ![0, 0, 0, 0] k slices_S12x10x72x64_S12x10x71x64_0_0_0_0⟩] concatenates_S12x10x1x64_S12x10x71x64_S12x10x72x64_d2
/-- Every chunk replaced by the one before it. -/
def rollI (k : IVec S12x10x72x64 32) : IVec S12x10x72x64 32 :=
  concatenate S12x10x72x64 2 [⟨S12x10x1x64, extractStridedSlice S12x10x1x64 ![0, 0, 71, 0] k slices_S12x10x72x64_S12x10x1x64_0_0_71_0⟩,
    ⟨S12x10x71x64, extractStridedSlice S12x10x71x64 ![0, 0, 0, 0] k slices_S12x10x72x64_S12x10x71x64_0_0_0_0⟩] concatenates_S12x10x1x64_S12x10x71x64_S12x10x72x64_d2
/-- The window of a chunk: the chunk before it, then the chunk itself. -/
def win5 (k : FVec Ideal S12x10x72x64x160 .bf16) : FVec Ideal S12x10x72x128x160 .bf16 :=
  concatenate S12x10x72x128x160 3 [⟨S12x10x72x64x160, roll5 k⟩, ⟨S12x10x72x64x160, k⟩] concatenates_S12x10x72x64x160_S12x10x72x64x160_S12x10x72x128x160_d3
/-- The window of a chunk: the chunk before it, then the chunk itself. -/
def winF (k : FVec Ideal S12x10x72x64 .f32) : FVec Ideal S12x10x72x128 .f32 :=
  concatenate S12x10x72x128 3 [⟨S12x10x72x64, rollF k⟩, ⟨S12x10x72x64, k⟩] concatenates_S12x10x72x64_S12x10x72x64_S12x10x72x128_d3
/-- The window of a chunk: the chunk before it, then the chunk itself. -/
def winI (k : IVec S12x10x72x64 32) : IVec S12x10x72x128 32 :=
  concatenate S12x10x72x128 3 [⟨S12x10x72x64, rollI k⟩, ⟨S12x10x72x64, k⟩] concatenates_S12x10x72x64_S12x10x72x64_S12x10x72x128_d3

theorem v40_eq : (StableHlo.after hostOps2_1 W (Proc.devRef .tc main_v40) : FVec Ideal S12x10x72x64x160 .bf16) = roll5 (W (Proc.devRef .tc main_v26)) := by
  after_results
  rfl

theorem v45_eq : (StableHlo.after hostOps2_5 W (Proc.devRef .tc main_v45) : FVec Ideal S12x10x72x64x160 .bf16) = roll5 (W (Proc.devRef .tc main_v44)) := by
  after_results
  rfl

theorem v42_eq : (StableHlo.after hostOps2_3 W (Proc.devRef .tc main_v42) : FVec Ideal S12x10x72x64 .f32) = rollF (W (Proc.devRef .tc main_v37)) := by
  after_results
  rfl

theorem v48_eq : (StableHlo.after hostOps2_7 W (Proc.devRef .tc main_v48) : FVec Ideal S12x10x72x64 .f32) = rollF (W (Proc.devRef .tc main_v47)) := by
  after_results
  rfl

theorem v50_eq : (StableHlo.after hostOps2_9 W (Proc.devRef .tc main_v50) : IVec S12x10x72x64 32) = rollI (W (Proc.devRef .tc main_v38)) := by
  after_results
  rfl

theorem v52_eq : (StableHlo.after hostOps2_11 W (Proc.devRef .tc main_v52) : IVec S12x10x72x64 32) = rollI (W (Proc.devRef .tc main_v39)) := by
  after_results
  rfl

theorem v41_eq (k : FVec Ideal S12x10x72x64x160 .bf16) (hr : W (Proc.devRef .tc main_v40) = roll5 k) (hk : W (Proc.devRef .tc main_v26) = k) :
    (StableHlo.after hostOps2_2 W (Proc.devRef .tc main_v41) : FVec Ideal S12x10x72x128x160 .bf16) = win5 k := by
  after_results
  rw [hr, hk]
  rfl

theorem v46_eq (k : FVec Ideal S12x10x72x64x160 .bf16) (hr : W (Proc.devRef .tc main_v45) = roll5 k) (hk : W (Proc.devRef .tc main_v44) = k) :
    (StableHlo.after hostOps2_6 W (Proc.devRef .tc main_v46) : FVec Ideal S12x10x72x128x160 .bf16) = win5 k := by
  after_results
  rw [hr, hk]
  rfl

theorem v43_eq (k : FVec Ideal S12x10x72x64 .f32) (hr : W (Proc.devRef .tc main_v42) = rollF k) (hk : W (Proc.devRef .tc main_v37) = k) :
    (StableHlo.after hostOps2_4 W (Proc.devRef .tc main_v43) : FVec Ideal S12x10x72x128 .f32) = winF k := by
  after_results
  rw [hr, hk]
  rfl

theorem v49_eq (k : FVec Ideal S12x10x72x64 .f32) (hr : W (Proc.devRef .tc main_v48) = rollF k) (hk : W (Proc.devRef .tc main_v47) = k) :
    (StableHlo.after hostOps2_8 W (Proc.devRef .tc main_v49) : FVec Ideal S12x10x72x128 .f32) = winF k := by
  after_results
  rw [hr, hk]
  rfl

theorem v51_eq (k : IVec S12x10x72x64 32) (hr : W (Proc.devRef .tc main_v50) = rollI k) (hk : W (Proc.devRef .tc main_v38) = k) :
    (StableHlo.after hostOps2_10 W (Proc.devRef .tc main_v51) : IVec S12x10x72x128 32) = winI k := by
  after_results
  rw [hr, hk]
  rfl

theorem win5_at (k : FVec Ideal S12x10x72x64x160 .bf16) (b : Fin 12) (h : Fin 10) (c : Fin 72) (i : Fin 128) (j : Fin 160) :
    win5 k (ix5 b h c i j) = k (ix5 b h ⟨(c.val + 71 + i.val / 64) % 72, Nat.mod_lt _ (by decide)⟩ ⟨i.val % 64, Nat.mod_lt _ (by decide)⟩ j) := by
  have hc := c.isLt
  have hi := i.isLt
  pointwise [win5, roll5]
  by_cases h1 : i.val < 64
  · rw [dif_pos h1]
    by_cases h2 : c.val < 1
    · rw [dif_pos h2]
      have e1 : (⟨71 + c.val, by omega⟩ : Fin 72) = ⟨(c.val + 71 + i.val / 64) % 72, Nat.mod_lt _ (by decide)⟩ := Fin.ext (by show 71 + c.val = (c.val + 71 + i.val / 64) % 72; omega)
      have e2 : (⟨i.val, by omega⟩ : Fin 64) = ⟨i.val % 64, Nat.mod_lt _ (by decide)⟩ := Fin.ext (by show i.val = i.val % 64; omega)
      rw [e1, e2]
    · rw [dif_neg h2]
      have e1 : (⟨c.val - 1, by omega⟩ : Fin 72) = ⟨(c.val + 71 + i.val / 64) % 72, Nat.mod_lt _ (by decide)⟩ := Fin.ext (by show c.val - 1 = (c.val + 71 + i.val / 64) % 72; omega)
      have e2 : (⟨i.val, by omega⟩ : Fin 64) = ⟨i.val % 64, Nat.mod_lt _ (by decide)⟩ := Fin.ext (by show i.val = i.val % 64; omega)
      rw [e1, e2]
  · rw [dif_neg h1]
    have e1 : c = ⟨(c.val + 71 + i.val / 64) % 72, Nat.mod_lt _ (by decide)⟩ := Fin.ext (by show c.val = (c.val + 71 + i.val / 64) % 72; omega)
    have e2 : (⟨i.val - 64, by omega⟩ : Fin 64) = ⟨i.val % 64, Nat.mod_lt _ (by decide)⟩ := Fin.ext (by show i.val - 64 = i.val % 64; omega)
    rw [e2, ← e1]

theorem winF_at (k : FVec Ideal S12x10x72x64 .f32) (b : Fin 12) (h : Fin 10) (c : Fin 72) (i : Fin 128) :
    winF k (ix4 b h c i) = k (ix4 b h ⟨(c.val + 71 + i.val / 64) % 72, Nat.mod_lt _ (by decide)⟩ ⟨i.val % 64, Nat.mod_lt _ (by decide)⟩) := by
  have hc := c.isLt
  have hi := i.isLt
  pointwise [winF, rollF]
  by_cases h1 : i.val < 64
  · rw [dif_pos h1]
    by_cases h2 : c.val < 1
    · rw [dif_pos h2]
      have e1 : (⟨71 + c.val, by omega⟩ : Fin 72) = ⟨(c.val + 71 + i.val / 64) % 72, Nat.mod_lt _ (by decide)⟩ := Fin.ext (by show 71 + c.val = (c.val + 71 + i.val / 64) % 72; omega)
      have e2 : (⟨i.val, by omega⟩ : Fin 64) = ⟨i.val % 64, Nat.mod_lt _ (by decide)⟩ := Fin.ext (by show i.val = i.val % 64; omega)
      rw [e1, e2]
    · rw [dif_neg h2]
      have e1 : (⟨c.val - 1, by omega⟩ : Fin 72) = ⟨(c.val + 71 + i.val / 64) % 72, Nat.mod_lt _ (by decide)⟩ := Fin.ext (by show c.val - 1 = (c.val + 71 + i.val / 64) % 72; omega)
      have e2 : (⟨i.val, by omega⟩ : Fin 64) = ⟨i.val % 64, Nat.mod_lt _ (by decide)⟩ := Fin.ext (by show i.val = i.val % 64; omega)
      rw [e1, e2]
  · rw [dif_neg h1]
    have e1 : c = ⟨(c.val + 71 + i.val / 64) % 72, Nat.mod_lt _ (by decide)⟩ := Fin.ext (by show c.val = (c.val + 71 + i.val / 64) % 72; omega)
    have e2 : (⟨i.val - 64, by omega⟩ : Fin 64) = ⟨i.val % 64, Nat.mod_lt _ (by decide)⟩ := Fin.ext (by show i.val - 64 = i.val % 64; omega)
    rw [e2, ← e1]

theorem winI_at (k : IVec S12x10x72x64 32) (b : Fin 12) (h : Fin 10) (c : Fin 72) (i : Fin 128) :
    winI k (ix4 b h c i) = k (ix4 b h ⟨(c.val + 71 + i.val / 64) % 72, Nat.mod_lt _ (by decide)⟩ ⟨i.val % 64, Nat.mod_lt _ (by decide)⟩) := by
  have hc := c.isLt
  have hi := i.isLt
  pointwise [winI, rollI]
  by_cases h1 : i.val < 64
  · rw [dif_pos h1]
    by_cases h2 : c.val < 1
    · rw [dif_pos h2]
      have e1 : (⟨71 + c.val, by omega⟩ : Fin 72) = ⟨(c.val + 71 + i.val / 64) % 72, Nat.mod_lt _ (by decide)⟩ := Fin.ext (by show 71 + c.val = (c.val + 71 + i.val / 64) % 72; omega)
      have e2 : (⟨i.val, by omega⟩ : Fin 64) = ⟨i.val % 64, Nat.mod_lt _ (by decide)⟩ := Fin.ext (by show i.val = i.val % 64; omega)
      rw [e1, e2]
    · rw [dif_neg h2]
      have e1 : (⟨c.val - 1, by omega⟩ : Fin 72) = ⟨(c.val + 71 + i.val / 64) % 72, Nat.mod_lt _ (by decide)⟩ := Fin.ext (by show c.val - 1 = (c.val + 71 + i.val / 64) % 72; omega)
      have e2 : (⟨i.val, by omega⟩ : Fin 64) = ⟨i.val % 64, Nat.mod_lt _ (by decide)⟩ := Fin.ext (by show i.val = i.val % 64; omega)
      rw [e1, e2]
  · rw [dif_neg h1]
    have e1 : c = ⟨(c.val + 71 + i.val / 64) % 72, Nat.mod_lt _ (by decide)⟩ := Fin.ext (by show c.val = (c.val + 71 + i.val / 64) % 72; omega)
    have e2 : (⟨i.val - 64, by omega⟩ : Fin 64) = ⟨i.val % 64, Nat.mod_lt _ (by decide)⟩ := Fin.ext (by show i.val - 64 = i.val % 64; omega)
    rw [e2, ← e1]

/-! ## Scores and probabilities -/

/-- A maximum over the last of five axes. -/
theorem hostMax5 {n0 n1 n2 n3 n4 : ℕ} (v : FVec Ideal ⟨5, ![n0, n1, n2, n3, n4]⟩ .f32) (z : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce FloatOps.maximumf v z h hu (ix4 a b c d) = Finset.univ.fold max (z (Shape.Idx.first hu)) fun k : Fin n4 => v (ix5 a b c d k) := by
  simp only [pointwise]

theorem v57_at (q : FVec Ideal S12x10x72x64x160 .bf16) (kw : FVec Ideal S12x10x72x128x160 .bf16) (f : FVec Ideal S12x10x72x128 .f32)
   (h26 : W (Proc.devRef .tc main_v26) = q) (h41 : W (Proc.devRef .tc main_v41) = kw) (h43 : W (Proc.devRef .tc main_v43) = f) (b : Fin 12) (h : Fin 10) (c : Fin 72) (i : Fin 64) (k : Fin 128) :
    (StableHlo.after hostOps2_12 W (Proc.devRef .tc main_v57) : FVec Ideal S12x10x72x64x128 .f32) (ix5 b h c i k)
      = (∑ j : Fin 160, q (ix5 b h c i j) * kw (ix5 b h c k j)) * f (ix4 b h c k) := by
  subst h26 h41 h43
  after_results
  pointwise

theorem sel_at (b : Fin 12) (h : Fin 10) (c : Fin 72) (i : Fin 64) (k : Fin 128) (x : BitVec 32) (z : FVec Ideal S12x10x72x64x128 .f32) (m1 : IVec S12x10x72x64x128 1) :
   select m1 (broadcastInDim S12x10x72x64x128 ![] bcast_S_S12x10x72x64x128 (constant (F := Ideal) S_ .f32 x)) z (ix5 b h c i k) = Scalar.select (m1 (ix5 b h c i k)) (Ideal.ofBits .f32 x) (z (ix5 b h c i k)) := by
  pointwise

theorem v68_at (bw : IVec S12x10x72x128 32) (bk pos : IVec S12x10x72x64 32) (h51 : W (Proc.devRef .tc main_v51) = bw) (h38 : W (Proc.devRef .tc main_v38) = bk)
    (h52 : W (Proc.devRef .tc main_v52) = rollI pos) (h39 : W (Proc.devRef .tc main_v39) = pos) (b : Fin 12) (h : Fin 10) (c : Fin 72) (i : Fin 64) (k : Fin 128) :
    (StableHlo.after hostOps2_12 W (Proc.devRef .tc main_v68) : IVec S12x10x72x64x128 1) (ix5 b h c i k)
      = IntOp.ori (IntOp.cmpi .ne (bw (ix4 b h c k)) (bk (ix4 b h c i))) (IntOp.cmpi .sgt (winI pos (ix4 b h c k)) (pos (ix4 b h c i))) := by
  after_results
  rw [h51, h38, h52, h39]
  pointwise [winI]

theorem v71_at (pos : IVec S12x10x72x64 32)
    (h52 : W (Proc.devRef .tc main_v52) = rollI pos) (h39 : W (Proc.devRef .tc main_v39) = pos) (b : Fin 12) (h : Fin 10) (c : Fin 72) (i : Fin 64) (k : Fin 128) :
    (StableHlo.after hostOps2_12 W (Proc.devRef .tc main_v71) : IVec S12x10x72x64x128 1) (ix5 b h c i k)
      = IntOp.cmpi .eq (winI pos (ix4 b h c k)) (pos (ix4 b h c i)) := by
  after_results
  rw [h52, h39]
  pointwise [winI]

theorem cst3_eq : (StableHlo.after hostOps2_12 W (Proc.devRef .tc main_cst_3) : FVec Ideal S_ .f32) = constant (F := Ideal) S_ .f32 0xCE6E6B28#32 := by
  after_results
theorem cst4_eq : (StableHlo.after hostOps2_14 W (Proc.devRef .tc main_cst_4) : FVec Ideal S_ .f32) = constant (F := Ideal) S_ .f32 0xC7C35000#32 := by
  after_results

theorem v72_eq :
    (StableHlo.after hostOps2_13 W (Proc.devRef .tc main_v72) : FVec Ideal S12x10x72x64x128 .f32)
      = select (W (Proc.devRef .tc main_v68)) (broadcastInDim S12x10x72x64x128 ![] bcast_S_S12x10x72x64x128 (W (Proc.devRef .tc main_cst_3) : FVec Ideal S_ .f32)) (W (Proc.devRef .tc main_v57)) := by
  after_results
  rfl
theorem v73_eq :
    (StableHlo.after hostOps2_15 W (Proc.devRef .tc main_v73) : FVec Ideal S12x10x72x64x128 .f32)
      = select (W (Proc.devRef .tc main_v71)) (broadcastInDim S12x10x72x64x128 ![] bcast_S_S12x10x72x64x128 (W (Proc.devRef .tc main_cst_4) : FVec Ideal S_ .f32)) (W (Proc.devRef .tc main_v72)) := by
  after_results
  rfl
/-- The exponentials of scores less their maximum. -/
def soft (s : FVec Ideal S12x10x72x64x128 .f32) : FVec Ideal S12x10x72x64x128 .f32 :=
  Host.exp (subf s (broadcastInDim S12x10x72x64x128 ![0, 1, 2, 3, 4] bcast_S12x10x72x64x1_S12x10x72x64x128_0_1_2_3_4 (broadcastInDim S12x10x72x64x1 ![0, 1, 2, 3] bcast_S12x10x72x64_S12x10x72x64x1_0_1_2_3
   (maximumf (broadcastInDim S12x10x72x64 ![] bcast_S_S12x10x72x64 (constant S_ .f32 0xFF800000#32)) (Host.reduce FloatOps.maximumf s (constant S_ .f32 0xFF800000#32) reducesTo_S12x10x72x64x128_S12x10x72x64_d4 h_S_)))))

/-- The exponentials over their sum, times the scales of the values. -/
def softDiv (e : FVec Ideal S12x10x72x64x128 .f32) (vs : FVec Ideal S12x10x72x128 .f32) : FVec Ideal S12x10x72x64x128 .bf16 :=
  truncf .bf16 (mulf (Host.divf e (broadcastInDim S12x10x72x64x128 ![0, 1, 2, 3, 4] bcast_S12x10x72x64x1_S12x10x72x64x128_0_1_2_3_4 (broadcastInDim S12x10x72x64x1 ![0, 1, 2, 3] bcast_S12x10x72x64_S12x10x72x64x1_0_1_2_3
    (Host.reduceAdd e (constant S_ .f32 0x00000000#32) reducesTo_S12x10x72x64x128_S12x10x72x64_d4 h_S_))))
   (broadcastInDim S12x10x72x64x128 ![0, 1, 2, 3, 4] bcast_S12x10x72x1x128_S12x10x72x64x128_0_1_2_3_4 (broadcastInDim S12x10x72x1x128 ![0, 1, 2, 4] bcast_S12x10x72x128_S12x10x72x1x128_0_1_2_4 vs))) bitsLt_bf16_f32

/-- The values so weighted, in the order of the result. -/
def outOf (p : FVec Ideal S12x10x72x64x128 .bf16) (v : FVec Ideal S12x10x72x128x160 .bf16) : FVec Ideal S12x10x10x36x16x128 .bf16 :=
  transpose S12x10x10x36x16x128 [0, 1, 4, 2, 5, 3] (shapeCast S12x10x36x128x10x16 (truncf .bf16 (shapeCast S12x10x4608x160 (Host.dotGeneral dot_S12x10x72x64x128_S12x10x72x128x160_S12x10x72x64x160_4_3_3_4_012_012 none p v : FVec Ideal S12x10x72x64x160 .f32) shapeCasts_S12x10x72x64x160_S12x10x4608x160) bitsLt_bf16_f32) shapeCasts_S12x10x4608x160_S12x10x36x128x10x16) transposes_S12x10x36x128x10x16_S12x10x10x36x16x128_0_1_4_2_5_3

theorem v93_eq :
    (StableHlo.after hostOps2_16 W (Proc.devRef .tc main_v93) : FVec Ideal S12x10x10x36x16x128 .bf16)
      = outOf (softDiv (soft (W (Proc.devRef .tc main_v73))) (W (Proc.devRef .tc main_v49))) (W (Proc.devRef .tc main_v46)) := by
  after_results
  rfl

/-- The maximum of the scores. -/
def maxOf (s : FVec Ideal S12x10x72x64x128 .f32) : FVec Ideal S12x10x72x64 .f32 :=
  Host.reduce FloatOps.maximumf s (constant S_ .f32 0xFF800000#32) reducesTo_S12x10x72x64x128_S12x10x72x64_d4 h_S_
/-- `soft`, of a given maximum. -/
def softM (s : FVec Ideal S12x10x72x64x128 .f32) (m : FVec Ideal S12x10x72x64 .f32) : FVec Ideal S12x10x72x64x128 .f32 :=
  Host.exp (subf s (broadcastInDim S12x10x72x64x128 ![0, 1, 2, 3, 4] bcast_S12x10x72x64x1_S12x10x72x64x128_0_1_2_3_4 (broadcastInDim S12x10x72x64x1 ![0, 1, 2, 3] bcast_S12x10x72x64_S12x10x72x64x1_0_1_2_3
   (maximumf (broadcastInDim S12x10x72x64 ![] bcast_S_S12x10x72x64 (constant S_ .f32 0xFF800000#32)) m))))
theorem softM_at (s : FVec Ideal S12x10x72x64x128 .f32) (m : FVec Ideal S12x10x72x64 .f32) (b : Fin 12) (h : Fin 10) (c : Fin 72) (i : Fin 64) (k : Fin 128) :
   softM s m (ix5 b h c i k) = Ideal.exp (s (ix5 b h c i k) - max (Ideal.ofBits .f32 0xFF800000#32) (m (ix4 b h c i))) := by
  pointwise [softM]
theorem maxOf_at (s : FVec Ideal S12x10x72x64x128 .f32) (b : Fin 12) (h : Fin 10) (c : Fin 72) (i : Fin 64) :
   maxOf s (ix4 b h c i) = Finset.univ.fold max (Ideal.ofBits .f32 0xFF800000#32) fun k : Fin 128 => s (ix5 b h c i k) := by
  unfold maxOf
  exact hostMax5 s _ _ _ b h c i
theorem soft_at (s : FVec Ideal S12x10x72x64x128 .f32) (b : Fin 12) (h : Fin 10) (c : Fin 72) (i : Fin 64) (k : Fin 128) :
   soft s (ix5 b h c i k) = Ideal.exp (s (ix5 b h c i k) - Finset.univ.fold max ⊥ (fun k : Fin 128 => s (ix5 b h c i k))) := by
  have hb : Ideal.ofBits .f32 0xFF800000#32 = ⊥ := by simp [Ideal.ofBits, Ideal.ieee]
  show softM s (maxOf s) (ix5 b h c i k) = _
  rw [softM_at, maxOf_at, hb, bot_sup_eq]
theorem softDiv_at (s : FVec Ideal S12x10x72x64x128 .f32) (vs : FVec Ideal S12x10x72x128 .f32)  (b : Fin 12) (h : Fin 10) (c : Fin 72) (i : Fin 64) (k : Fin 128) :
   softDiv s vs (ix5 b h c i k) = Ideal.div (s (ix5 b h c i k)) (∑ k : Fin 128, s (ix5 b h c i k)) * vs (ix4 b h c k) := by
  pointwise [softDiv]
theorem outOf_at (p : FVec Ideal S12x10x72x64x128 .bf16) (v : FVec Ideal S12x10x72x128x160 .bf16) (b : Fin 12) (h : Fin 10) (g : Fin 10) (t : Fin 36) (a : Fin 16) (l : Fin 128) :
   outOf p v (ix6 b h g t a l) = ∑ x : Fin 128, p (ix5 b h ⟨(t.val * 128 + l.val) / 64, by omega⟩ ⟨(t.val * 128 + l.val) % 64, by omega⟩ x)
      * v (ix5 b h ⟨(t.val * 128 + l.val) / 64, by omega⟩ x ⟨g.val * 16 + a.val, by omega⟩) := by
  pointwise [outOf]
end Cert.ReferenceIdeal.Hand

end
-- ==== Proof.RefValue.lean ====
/- What the reference's result array holds: attention, at every index. -/
module

public import proofs.«01_k».proof.Proof.RefRegion
public import proofs.«01_k».proof.Proof.RefOps

@[expose] public section

set_option maxRecDepth 16384

noncomputable section

namespace Cert.ReferenceIdeal.Hand

open Cert.ReferenceIdeal Cert.ReferenceIdeal.Gen Cert.Head
open Idealize.ShloMosaic Idealize.ShloMosaic.TcCoe
open Idealize.SL Idealize.SL.Sem

variable (m : (ℓ : Loc nD τ sig) → Buf (Elt Ideal) ℓ) (ρ : Dev nD → PrngReg) (c : Dev nD)

/-- The words of one head, of the argument array. -/
def hw (b : Fin 12) (h : Fin 10) : Words :=
  fun d t r l => (m ((c.tc : Thread nD τ).loc main_arg0) : Vec Ideal S12x10x11x36x8x128 .i32) (ix6 b h d t r l)

/-- Row `i` of chunk `k`, as a token. -/
def ctok (k : Fin 72) (i : Fin 64) : Fin 4608 := ⟨k.val * 64 + i.val, by omega⟩

/-- The rows of a window, as tokens. -/
theorem ctok_key (k : Fin 72) (i : Fin 64) (x : Fin 128) :
    ctok ⟨(k.val + 71 + x.val / 64) % 72, Nat.mod_lt _ (by decide)⟩ ⟨x.val % 64, Nat.mod_lt _ (by decide)⟩ = key (ctok k i) x := by
  have hk := k.isLt
  have hi := i.isLt
  have hx := x.isLt
  apply Fin.ext
  show (k.val + 71 + x.val / 64) % 72 * 64 + x.val % 64 = (64 * ((k.val * 64 + i.val) / 64) + x.val + 4544) % 4608
  omega

/-! ## The unpacked codes -/

theorem v3_val (b : Fin 12) (h : Fin 10) (n : Fin 4608) (j : Fin 160) :
    (W4 m ρ c (Proc.devRef .tc main_v3) : FVec Ideal S12x10x4608x160 .bf16) (ix4 b h n j)
      = code (hw m c b h ⟨j.val / 32, by omega⟩ (tile n) ⟨j.val % 32 / 4, by omega⟩ (lane n)) (j.val % 4) := by
  have e : (W4 m ρ c (Proc.devRef .tc main_v3) : FVec Ideal S12x10x4608x160 .bf16) = W3 m ρ c (Proc.devRef .tc main_v3) :=
    W4_of m ρ c main_v3 (by decide)
  have e1 : (W2 m ρ c (Proc.devRef .tc main_v1) : FVec Ideal S12x10x5x36x32x128 .bf16) = k0_pay1 (V1 m ρ c main_v0) :=
    (W2_arr m ρ c 1).trans (final0 (V1 m ρ) c)
  refine (congrFun e _).trans ((v3_at (W2 m ρ c) b h n j).trans ?_)
  rw [e1, pay_at]
  congr 1
  · exact v0_at (W0 m ρ c) b h _ _ _ _
  · show j.val % 32 % 4 = j.val % 4
    omega

theorem v5_val (b : Fin 12) (h : Fin 10) (d : Fin 5) (t : Fin 36) (a : Fin 32) (l : Fin 128) :
    (W4 m ρ c (Proc.devRef .tc main_v5) : FVec Ideal S12x10x5x36x32x128 .bf16) (ix6 b h d t a l)
      = code (hw m c b h ⟨5 + d.val, by omega⟩ t ⟨a.val / 4, by omega⟩ l) (a.val % 4) := by
  have e1 : (W4 m ρ c (Proc.devRef .tc main_v5) : FVec Ideal S12x10x5x36x32x128 .bf16) = k0_pay1 (V3 m ρ c main_v4) :=
    (W4_arr m ρ c 1).trans (final1 (V3 m ρ) c)
  rw [e1, pay_at]
  congr 1
  refine (v4_at (W2 m ρ c) b h _ _ _ _).trans ?_
  rw [W2_args m ρ c main_arg0 (by decide)]
  rfl

/-! ## Features, scales, buckets and positions, by chunks -/

theorem arg_eq : (W4 m ρ c (Proc.devRef .tc main_arg0) : Vec Ideal S12x10x11x36x8x128 .i32) = m ((c.tc : Thread nD τ).loc main_arg0) :=
  W4_args m ρ c main_arg0 (by decide)

theorem q_val (b : Fin 12) (h : Fin 10) (k : Fin 72) (i : Fin 64) (j : Fin 160) :
    (W5 m ρ c (Proc.devRef .tc main_v26) : FVec Ideal S12x10x72x64x160 .bf16) (ix5 b h k i j) = qF (hw m c b h) j (ctok k i) := by
  have hj : (⟨j.val / 32 * 32 + j.val % 32, by omega⟩ : Fin 160) = j := Fin.ext (by show j.val / 32 * 32 + j.val % 32 = j.val; omega)
  refine (v26_at (W4 m ρ c) _ rfl b h k i j).trans ?_
  rw [hj, v3_val, arg_eq]
  rfl

theorem kf_val (b : Fin 12) (h : Fin 10) (k : Fin 72) (i : Fin 64) :
    (W5 m ρ c (Proc.devRef .tc main_v37) : FVec Ideal S12x10x72x64 .f32) (ix4 b h k i) = kfR (hw m c b h) (ctok k i) := by
  have e := v37_eq (W4 m ρ c)
  rw [show (W5 m ρ c (Proc.devRef .tc main_v37) : FVec Ideal S12x10x72x64 .f32) = _ from e, kScale_at]
  unfold kfR
  simp only [show ∀ j, (StableHlo.after hostOps2 (W4 m ρ c) (Proc.devRef .tc main_v26) : FVec Ideal S12x10x72x64x160 .bf16) (ix5 b h k i j) = _ from q_val m ρ c b h k i]

theorem v_val (b : Fin 12) (h : Fin 10) (n : Fin 4608) (j : Fin 160) :
    (W5 m ρ c (Proc.devRef .tc main_v7) : FVec Ideal S12x10x4608x160 .bf16) (ix4 b h n j) = vF (hw m c b h) j n := by
  refine (v7_at (W4 m ρ c) b h n j).trans ?_
  rw [v5_val]
  unfold vF
  congr 1
  show j.val % 32 % 4 = j.val % 4
  omega

theorem vs_val (b : Fin 12) (h : Fin 10) (n : Fin 4608) :
    (W5 m ρ c (Proc.devRef .tc main_v16) : FVec Ideal S12x10x4608 .f32) (ix3 b h n) = vsF (hw m c b h) n := by
  refine (v16_at (W4 m ρ c) b h n).trans ?_
  rw [arg_eq]
  rfl

theorem st_val (b : Fin 12) (h : Fin 10) (k : Fin 72) (i : Fin 64) :
    (W5 m ρ c (Proc.devRef .tc main_v38) : IVec S12x10x72x64 32) (ix4 b h k i) = stW (hw m c b h) (ctok k i) := by
  refine (v38_at (W4 m ρ c) b h k i).trans ?_
  rw [arg_eq]
  rfl

theorem pos_val (b : Fin 12) (h : Fin 10) (k : Fin 72) (i : Fin 64) :
    (W5 m ρ c (Proc.devRef .tc main_v39) : IVec S12x10x72x64 32) (ix4 b h k i) = BitVec.ofNat 32 (ctok k i).val :=
  v39_at (W4 m ρ c) b h k i

/-! ## What later stretches keep -/

theorem keep26_6 : W6 m ρ c (Proc.devRef .tc main_v26) = W5 m ρ c (Proc.devRef .tc main_v26) :=
  (W6_of m ρ c main_v26 (by decide))
theorem keep26_16 : W16 m ρ c (Proc.devRef .tc main_v26) = W5 m ρ c (Proc.devRef .tc main_v26) :=
  ((W16_of m ρ c main_v26 (by decide)).trans ((W15_of m ρ c main_v26 (by decide)).trans ((W14_of m ρ c main_v26 (by decide)).trans ((W13_of m ρ c main_v26 (by decide)).trans ((W12_of m ρ c main_v26 (by decide)).trans ((W11_of m ρ c main_v26 (by decide)).trans ((W10_of m ρ c main_v26 (by decide)).trans ((W9_of m ρ c main_v26 (by decide)).trans ((W8_of m ρ c main_v26 (by decide)).trans ((W7_of m ρ c main_v26 (by decide)).trans (W6_of m ρ c main_v26 (by decide))))))))))))
theorem keep37_7 : W7 m ρ c (Proc.devRef .tc main_v37) = W5 m ρ c (Proc.devRef .tc main_v37) :=
  ((W7_of m ρ c main_v37 (by decide)).trans (W6_of m ρ c main_v37 (by decide)))
theorem keep37_8 : W8 m ρ c (Proc.devRef .tc main_v37) = W5 m ρ c (Proc.devRef .tc main_v37) :=
  ((W8_of m ρ c main_v37 (by decide)).trans ((W7_of m ρ c main_v37 (by decide)).trans (W6_of m ρ c main_v37 (by decide))))
theorem keep38_13 : W13 m ρ c (Proc.devRef .tc main_v38) = W5 m ρ c (Proc.devRef .tc main_v38) :=
  ((W13_of m ρ c main_v38 (by decide)).trans ((W12_of m ρ c main_v38 (by decide)).trans ((W11_of m ρ c main_v38 (by decide)).trans ((W10_of m ρ c main_v38 (by decide)).trans ((W9_of m ρ c main_v38 (by decide)).trans ((W8_of m ρ c main_v38 (by decide)).trans ((W7_of m ρ c main_v38 (by decide)).trans (W6_of m ρ c main_v38 (by decide)))))))))
theorem keep38_14 : W14 m ρ c (Proc.devRef .tc main_v38) = W5 m ρ c (Proc.devRef .tc main_v38) :=
  ((W14_of m ρ c main_v38 (by decide)).trans ((W13_of m ρ c main_v38 (by decide)).trans ((W12_of m ρ c main_v38 (by decide)).trans ((W11_of m ρ c main_v38 (by decide)).trans ((W10_of m ρ c main_v38 (by decide)).trans ((W9_of m ρ c main_v38 (by decide)).trans ((W8_of m ρ c main_v38 (by decide)).trans ((W7_of m ρ c main_v38 (by decide)).trans (W6_of m ρ c main_v38 (by decide))))))))))
theorem keep38_16 : W16 m ρ c (Proc.devRef .tc main_v38) = W5 m ρ c (Proc.devRef .tc main_v38) :=
  ((W16_of m ρ c main_v38 (by decide)).trans ((W15_of m ρ c main_v38 (by decide)).trans ((W14_of m ρ c main_v38 (by decide)).trans ((W13_of m ρ c main_v38 (by decide)).trans ((W12_of m ρ c main_v38 (by decide)).trans ((W11_of m ρ c main_v38 (by decide)).trans ((W10_of m ρ c main_v38 (by decide)).trans ((W9_of m ρ c main_v38 (by decide)).trans ((W8_of m ρ c main_v38 (by decide)).trans ((W7_of m ρ c main_v38 (by decide)).trans (W6_of m ρ c main_v38 (by decide))))))))))))
theorem keep39_15 : W15 m ρ c (Proc.devRef .tc main_v39) = W5 m ρ c (Proc.devRef .tc main_v39) :=
  ((W15_of m ρ c main_v39 (by decide)).trans ((W14_of m ρ c main_v39 (by decide)).trans ((W13_of m ρ c main_v39 (by decide)).trans ((W12_of m ρ c main_v39 (by decide)).trans ((W11_of m ρ c main_v39 (by decide)).trans ((W10_of m ρ c main_v39 (by decide)).trans ((W9_of m ρ c main_v39 (by decide)).trans ((W8_of m ρ c main_v39 (by decide)).trans ((W7_of m ρ c main_v39 (by decide)).trans (W6_of m ρ c main_v39 (by decide)))))))))))
theorem keep39_16 : W16 m ρ c (Proc.devRef .tc main_v39) = W5 m ρ c (Proc.devRef .tc main_v39) :=
  ((W16_of m ρ c main_v39 (by decide)).trans ((W15_of m ρ c main_v39 (by decide)).trans ((W14_of m ρ c main_v39 (by decide)).trans ((W13_of m ρ c main_v39 (by decide)).trans ((W12_of m ρ c main_v39 (by decide)).trans ((W11_of m ρ c main_v39 (by decide)).trans ((W10_of m ρ c main_v39 (by decide)).trans ((W9_of m ρ c main_v39 (by decide)).trans ((W8_of m ρ c main_v39 (by decide)).trans ((W7_of m ρ c main_v39 (by decide)).trans (W6_of m ρ c main_v39 (by decide))))))))))))
theorem keep41_16 : W16 m ρ c (Proc.devRef .tc main_v41) = W7 m ρ c (Proc.devRef .tc main_v41) :=
  ((W16_of m ρ c main_v41 (by decide)).trans ((W15_of m ρ c main_v41 (by decide)).trans ((W14_of m ρ c main_v41 (by decide)).trans ((W13_of m ρ c main_v41 (by decide)).trans ((W12_of m ρ c main_v41 (by decide)).trans ((W11_of m ρ c main_v41 (by decide)).trans ((W10_of m ρ c main_v41 (by decide)).trans ((W9_of m ρ c main_v41 (by decide)).trans (W8_of m ρ c main_v41 (by decide))))))))))
theorem keep43_16 : W16 m ρ c (Proc.devRef .tc main_v43) = W9 m ρ c (Proc.devRef .tc main_v43) :=
  ((W16_of m ρ c main_v43 (by decide)).trans ((W15_of m ρ c main_v43 (by decide)).trans ((W14_of m ρ c main_v43 (by decide)).trans ((W13_of m ρ c main_v43 (by decide)).trans ((W12_of m ρ c main_v43 (by decide)).trans ((W11_of m ρ c main_v43 (by decide)).trans (W10_of m ρ c main_v43 (by decide))))))))
theorem keep51_16 : W16 m ρ c (Proc.devRef .tc main_v51) = W15 m ρ c (Proc.devRef .tc main_v51) :=
  (W16_of m ρ c main_v51 (by decide))
theorem keep7_8 : W8 m ρ c (Proc.devRef .tc main_v7) = W5 m ρ c (Proc.devRef .tc main_v7) :=
  ((W8_of m ρ c main_v7 (by decide)).trans ((W7_of m ρ c main_v7 (by decide)).trans (W6_of m ρ c main_v7 (by decide))))
theorem keep44_10 : W10 m ρ c (Proc.devRef .tc main_v44) = W9 m ρ c (Proc.devRef .tc main_v44) :=
  (W10_of m ρ c main_v44 (by decide))
theorem keep46_20 : W20 m ρ c (Proc.devRef .tc main_v46) = W11 m ρ c (Proc.devRef .tc main_v46) :=
  ((W20_of m ρ c main_v46 (by decide)).trans ((W19_of m ρ c main_v46 (by decide)).trans ((W18_of m ρ c main_v46 (by decide)).trans ((W17_of m ρ c main_v46 (by decide)).trans ((W16_of m ρ c main_v46 (by decide)).trans ((W15_of m ρ c main_v46 (by decide)).trans ((W14_of m ρ c main_v46 (by decide)).trans ((W13_of m ρ c main_v46 (by decide)).trans (W12_of m ρ c main_v46 (by decide))))))))))
theorem keep16_10 : W10 m ρ c (Proc.devRef .tc main_v16) = W5 m ρ c (Proc.devRef .tc main_v16) :=
  ((W10_of m ρ c main_v16 (by decide)).trans ((W9_of m ρ c main_v16 (by decide)).trans ((W8_of m ρ c main_v16 (by decide)).trans ((W7_of m ρ c main_v16 (by decide)).trans (W6_of m ρ c main_v16 (by decide))))))
theorem keep47_12 : W12 m ρ c (Proc.devRef .tc main_v47) = W11 m ρ c (Proc.devRef .tc main_v47) :=
  (W12_of m ρ c main_v47 (by decide))
theorem keep49_20 : W20 m ρ c (Proc.devRef .tc main_v49) = W13 m ρ c (Proc.devRef .tc main_v49) :=
  ((W20_of m ρ c main_v49 (by decide)).trans ((W19_of m ρ c main_v49 (by decide)).trans ((W18_of m ρ c main_v49 (by decide)).trans ((W17_of m ρ c main_v49 (by decide)).trans ((W16_of m ρ c main_v49 (by decide)).trans ((W15_of m ρ c main_v49 (by decide)).trans (W14_of m ρ c main_v49 (by decide))))))))
theorem keep71_19 : W19 m ρ c (Proc.devRef .tc main_v71) = W17 m ρ c (Proc.devRef .tc main_v71) :=
  ((W19_of m ρ c main_v71 (by decide)).trans (W18_of m ρ c main_v71 (by decide)))
theorem keep72_19 : W19 m ρ c (Proc.devRef .tc main_v72) = W18 m ρ c (Proc.devRef .tc main_v72) :=
  (W19_of m ρ c main_v72 (by decide))

/-! ## Windows -/

theorem w41 : (W7 m ρ c (Proc.devRef .tc main_v41) : FVec Ideal S12x10x72x128x160 .bf16) = win5 (W5 m ρ c (Proc.devRef .tc main_v26)) :=
  v41_eq (W6 m ρ c) _ (v40_eq (W5 m ρ c)) (keep26_6 m ρ c)
theorem w43 : (W9 m ρ c (Proc.devRef .tc main_v43) : FVec Ideal S12x10x72x128 .f32) = winF (W5 m ρ c (Proc.devRef .tc main_v37)) :=
  v43_eq (W8 m ρ c) _ ((v42_eq (W7 m ρ c)).trans (congrArg rollF (keep37_7 m ρ c))) (keep37_8 m ρ c)
theorem w46 : (W11 m ρ c (Proc.devRef .tc main_v46) : FVec Ideal S12x10x72x128x160 .bf16) = win5 (W9 m ρ c (Proc.devRef .tc main_v44)) :=
  v46_eq (W10 m ρ c) _ (v45_eq (W9 m ρ c)) (keep44_10 m ρ c)
theorem w49 : (W13 m ρ c (Proc.devRef .tc main_v49) : FVec Ideal S12x10x72x128 .f32) = winF (W11 m ρ c (Proc.devRef .tc main_v47)) :=
  v49_eq (W12 m ρ c) _ (v48_eq (W11 m ρ c)) (keep47_12 m ρ c)
theorem w51 : (W15 m ρ c (Proc.devRef .tc main_v51) : IVec S12x10x72x128 32) = winI (W5 m ρ c (Proc.devRef .tc main_v38)) :=
  v51_eq (W14 m ρ c) _ ((v50_eq (W13 m ρ c)).trans (congrArg rollI (keep38_13 m ρ c))) (keep38_14 m ρ c)
theorem w52 : (W16 m ρ c (Proc.devRef .tc main_v52) : IVec S12x10x72x64 32) = rollI (W5 m ρ c (Proc.devRef .tc main_v39)) :=
  (v52_eq (W15 m ρ c)).trans (congrArg rollI (keep39_15 m ρ c))

theorem val_val (b : Fin 12) (h : Fin 10) (k : Fin 72) (i : Fin 64) (j : Fin 160) :
    (W9 m ρ c (Proc.devRef .tc main_v44) : FVec Ideal S12x10x72x64x160 .bf16) (ix5 b h k i j) = vF (hw m c b h) j (ctok k i) := by
  refine (v44_at (W8 m ρ c) b h k i j).trans ?_
  rw [keep7_8]
  exact v_val m ρ c b h _ j
theorem vsc_val (b : Fin 12) (h : Fin 10) (k : Fin 72) (i : Fin 64) :
    (W11 m ρ c (Proc.devRef .tc main_v47) : FVec Ideal S12x10x72x64 .f32) (ix4 b h k i) = vsF (hw m c b h) (ctok k i) := by
  refine (v47_at (W10 m ρ c) b h k i).trans ?_
  rw [keep16_10]
  exact vs_val m ρ c b h _

/-! ## Scores -/

theorem dots_val (b : Fin 12) (h : Fin 10) (k : Fin 72) (i : Fin 64) (x : Fin 128) :
    (W17 m ρ c (Proc.devRef .tc main_v57) : FVec Ideal S12x10x72x64x128 .f32) (ix5 b h k i x)
      = dotF (hw m c b h) (ctok k i) (key (ctok k i) x) * kfR (hw m c b h) (key (ctok k i) x) := by
  refine (v57_at (W16 m ρ c) _ _ _ (keep26_16 m ρ c) ((keep41_16 m ρ c).trans (w41 m ρ c)) ((keep43_16 m ρ c).trans (w43 m ρ c)) b h k i x).trans ?_
  rw [winF_at, kf_val, ctok_key k i x]
  unfold dotF
  refine congrArg (· * _) (Finset.sum_congr rfl fun j _ => ?_)
  rw [win5_at, q_val, q_val, ctok_key k i x]

theorem pos_eq (x y : Fin 4608) : IntOp.cmpi .eq (BitVec.ofNat 32 x.val) (BitVec.ofNat 32 y.val) = BitVec.ofBool (decide (y = x)) := by
  show BitVec.ofBool (BitVec.ofNat 32 x.val == BitVec.ofNat 32 y.val) = _
  congr 1
  rw [Bool.eq_iff_iff, beq_iff_eq, decide_eq_true_eq, WordCmp.ofNat_eq_ofNat_iff (by omega) (by omega)]
  exact ⟨fun e => Fin.ext e.symm, fun e => congrArg Fin.val e.symm⟩

theorem pos_gt (x y : Fin 4608) : IntOp.cmpi .sgt (BitVec.ofNat 32 x.val) (BitVec.ofNat 32 y.val) = BitVec.ofBool (decide (y < x)) := by
  show BitVec.ofBool (BitVec.slt (BitVec.ofNat 32 y.val) (BitVec.ofNat 32 x.val)) = _
  congr 1
  rw [Bool.eq_iff_iff, BitVec.slt_iff_toInt_lt, decide_eq_true_eq, WordCmp.toInt_ofNat_of_lt (by omega), WordCmp.toInt_ofNat_of_lt (by omega)]
  exact Int.ofNat_lt

theorem ne_word (x y : BitVec 32) : IntOp.cmpi .ne x y = BitVec.ofBool (decide (x ≠ y)) := by
  show BitVec.ofBool (x != y) = _
  congr 1
  rw [Bool.eq_iff_iff, bne_iff_ne, decide_eq_true_eq]

theorem or_bool (p q : Bool) : IntOp.ori (BitVec.ofBool p) (BitVec.ofBool q) = BitVec.ofBool (p || q) := by
  revert p q
  decide

theorem select_dec {α : Type} (p : Prop) [Decidable p] (x y : α) : Scalar.select (BitVec.ofBool (decide p)) x y = if p then x else y := by
  unfold Scalar.select
  by_cases h : p <;> simp [h]

theorem score_val (b : Fin 12) (h : Fin 10) (k : Fin 72) (i : Fin 64) (x : Fin 128) :
    (W20 m ρ c (Proc.devRef .tc main_v73) : FVec Ideal S12x10x72x64x128 .f32) (ix5 b h k i x) = scoreR (hw m c b h) (ctok k i) x := by
  have h71 : (W19 m ρ c (Proc.devRef .tc main_v71) : IVec S12x10x72x64x128 1) (ix5 b h k i x)
      = BitVec.ofBool (decide (ctok k i = key (ctok k i) x)) := by
    rw [keep71_19]
    refine (v71_at (W16 m ρ c) _ (w52 m ρ c) (keep39_16 m ρ c) b h k i x).trans ?_
    rw [winI_at, pos_val, pos_val, ctok_key k i x, pos_eq]
  have h68 : (W17 m ρ c (Proc.devRef .tc main_v68) : IVec S12x10x72x64x128 1) (ix5 b h k i x)
      = BitVec.ofBool (decide (stW (hw m c b h) (key (ctok k i) x) ≠ stW (hw m c b h) (ctok k i)) || decide (ctok k i < key (ctok k i) x)) := by
    refine (v68_at (W16 m ρ c) _ _ _ ((keep51_16 m ρ c).trans (w51 m ρ c)) (keep38_16 m ρ c) (w52 m ρ c) (keep39_16 m ρ c) b h k i x).trans ?_
    rw [winI_at, winI_at, pos_val, pos_val, st_val, st_val, ctok_key k i x, pos_gt, ne_word, or_bool]
  have e4 : (W19 m ρ c (Proc.devRef .tc main_cst_4) : FVec Ideal S_ .f32) = constant (F := Ideal) S_ .f32 0xC7C35000#32 := cst4_eq (W18 m ρ c)
  have e3 : (W17 m ρ c (Proc.devRef .tc main_cst_3) : FVec Ideal S_ .f32) = constant (F := Ideal) S_ .f32 0xCE6E6B28#32 := cst3_eq (W16 m ρ c)
  have e73 : (W20 m ρ c (Proc.devRef .tc main_v73) : FVec Ideal S12x10x72x64x128 .f32) = _ := v73_eq (W19 m ρ c)
  have e72 : (W18 m ρ c (Proc.devRef .tc main_v72) : FVec Ideal S12x10x72x64x128 .f32) = _ := v72_eq (W17 m ρ c)
  rw [e73, e4, sel_at, h71, select_dec, keep72_19, e72, e3, sel_at, h68, ← Bool.decide_or, select_dec, dots_val]
  unfold scoreR
  congr

/-! ## The result -/

/-- The probabilities of scores that are real numbers. -/
theorem soft_weight (s : FVec Ideal S12x10x72x64x128 .f32) (z : Fin 128 → ℝ) (b : Fin 12) (h : Fin 10) (k : Fin 72) (i : Fin 64)
    (hs : ∀ y : Fin 128, s (ix5 b h k i y) = (z y : EReal)) (x : Fin 128) :
    Ideal.div (soft s (ix5 b h k i x)) (∑ y : Fin 128, soft s (ix5 b h k i y)) = (weight z x : EReal) := by
  simp only [soft_at]
  exact plain_weight z (fun y => s (ix5 b h k i y)) hs x

theorem prob_val (b : Fin 12) (h : Fin 10) (hF : Fine (hw m c b h)) (k : Fin 72) (i : Fin 64) (x : Fin 128) :
    softDiv (soft (W20 m ρ c (Proc.devRef .tc main_v73))) (W20 m ρ c (Proc.devRef .tc main_v49)) (ix5 b h k i x)
      = (weight (zR (hw m c b h) (ctok k i)) x : EReal) * vsF (hw m c b h) (key (ctok k i) x) := by
  have hv : (W20 m ρ c (Proc.devRef .tc main_v49) : FVec Ideal S12x10x72x128 .f32) (ix4 b h k x) = vsF (hw m c b h) (key (ctok k i) x) := by
    rw [keep49_20, w49, winF_at, vsc_val, ctok_key k i x]
  have hs : ∀ y : Fin 128, (W20 m ρ c (Proc.devRef .tc main_v73) : FVec Ideal S12x10x72x64x128 .f32) (ix5 b h k i y) = (zR (hw m c b h) (ctok k i) y : EReal) :=
    fun y => (score_val m ρ c b h k i y).trans (hF.scoreR _ _)
  generalize W20 m ρ c (Proc.devRef .tc main_v73) = s at hs ⊢
  generalize W20 m ρ c (Proc.devRef .tc main_v49) = v at hv ⊢
  rw [softDiv_at, soft_weight s _ b h k i hs x, hv]

theorem out_val (b : Fin 12) (h : Fin 10) (hF : Fine (hw m c b h)) (g : Fin 10) (t : Fin 36) (a : Fin 16) (l : Fin 128) :
    (W21 m ρ c (Proc.devRef .tc main_v93) : FVec Ideal S12x10x10x36x16x128 .bf16) (ix6 b h g t a l)
      = attention (hw m c b h) (tok t l) ⟨16 * g.val + a.val, by omega⟩ := by
  have e : (W21 m ρ c (Proc.devRef .tc main_v93) : FVec Ideal S12x10x10x36x16x128 .bf16) = _ := v93_eq (W20 m ρ c)
  have hk : ctok ⟨(t.val * 128 + l.val) / 64, by omega⟩ ⟨(t.val * 128 + l.val) % 64, by omega⟩ = tok t l := by
    apply Fin.ext
    show (t.val * 128 + l.val) / 64 * 64 + (t.val * 128 + l.val) % 64 = 128 * t.val + l.val
    omega
  have hj : (⟨g.val * 16 + a.val, by omega⟩ : Fin 160) = ⟨16 * g.val + a.val, by omega⟩ := Fin.ext (by show g.val * 16 + a.val = 16 * g.val + a.val; omega)
  have hp := prob_val m ρ c b h hF ⟨(t.val * 128 + l.val) / 64, by omega⟩ ⟨(t.val * 128 + l.val) % 64, by omega⟩
  have hv : ∀ x : Fin 128, (W20 m ρ c (Proc.devRef .tc main_v46) : FVec Ideal S12x10x72x128x160 .bf16)
      (ix5 b h ⟨(t.val * 128 + l.val) / 64, by omega⟩ x ⟨16 * g.val + a.val, by omega⟩) = vF (hw m c b h) ⟨16 * g.val + a.val, by omega⟩ (key (tok t l) x) := by
    intro x
    rw [keep46_20, w46, win5_at, val_val, ctok_key _ ⟨(t.val * 128 + l.val) % 64, by omega⟩ x, hk]
  rw [hk] at hp
  refine (congrFun e _).trans ?_
  generalize softDiv (soft (W20 m ρ c (Proc.devRef .tc main_v73))) (W20 m ρ c (Proc.devRef .tc main_v49)) = p at hp ⊢
  generalize W20 m ρ c (Proc.devRef .tc main_v46) = v at hv ⊢
  refine (outOf_at _ _ b h g t a l).trans ?_
  rw [hj]
  unfold attention
  refine Finset.sum_congr (M := EReal) rfl fun x _ => ?_
  rw [hp, hv]
  rw [mul_comm, mul_comm (weight _ x : EReal), ← mul_assoc]

end Cert.ReferenceIdeal.Hand

end
-- ==== Proof.Pre.lean ====
/- What the precondition says of the words of every head: the codes and scales of the keys are real numbers, and the
   bucket starts are those of tokens sorted by bucket. -/
module

public import proofs.«01_k».proof.Proof.Gen.Pre_pre
public import proofs.«01_k».proof.Proof.Window
public import Idealize.ShloMosaic.Lib.ReduceAll
public import Idealize.ShloMosaic.Lib.WordCmp
public import Idealize.ShloMosaic.Lib.Pointwise

@[expose] public section

set_option maxRecDepth 16384

noncomputable section

namespace Cert.Pre_pre.Hand

open Cert.Pre_pre Cert.Pre_pre.Gen Cert.Head
open Idealize.ShloMosaic

variable (x : IVec S12x10x11x36x8x128 32)

/-- The words of one head. -/
def hw (b : Fin 12) (h : Fin 10) : Words := fun d t r l => x (ix6 b h d t r l)

/-- The precondition as six statements, each of a whole array. -/
def starts : IVec S12x10x4608 32 :=
  shapeCast S12x10x4608 (shapeCast S12x10x36x128 (extractStridedSlice S12x10x36x1x128 ![0, 0, 0, 6, 0]
    (shapeCast S12x10x36x8x128 (extractStridedSlice S12x10x1x36x8x128 ![0, 0, 10, 0, 0, 0] x slices_S12x10x11x36x8x128_S12x10x1x36x8x128_0_0_10_0_0_0) shapeCasts_S12x10x1x36x8x128_S12x10x36x8x128)
    slices_S12x10x36x8x128_S12x10x36x1x128_0_0_0_6_0) shapeCasts_S12x10x36x1x128_S12x10x36x128) shapeCasts_S12x10x36x128_S12x10x4608

def before : IVec S12x10x4608 32 :=
  concatenate S12x10x4608 2 [⟨S12x10x1, broadcastInDim S12x10x1 ![] bcast_S_S12x10x1 (constantI S_ 32 0#32)⟩,
    ⟨S12x10x4607, extractStridedSlice S12x10x4607 ![0, 0, 0] (starts x) slices_S12x10x4608_S12x10x4607_0_0_0⟩] concatenates_S12x10x1_S12x10x4607_S12x10x4608_d2

def sorted : IVec S12x10x4608 1 :=
  ori (cmpi .eq (starts x) (before x))
    (cmpi .eq (starts x) (broadcastInDim S12x10x4608 ![0, 1, 2] bcast_S1x1x4608_S12x10x4608_0_1_2 (broadcastInDim S1x1x4608 ![2] bcast_S4608_S1x1x4608_2 (iotaInDim S4608 32 0))))

def scales : IVec S12x10x36x5x128 1 :=
  cmpi .ne (andi (extractStridedSlice S12x10x36x5x128 ![0, 0, 0, 0, 0]
    (shapeCast S12x10x36x8x128 (extractStridedSlice S12x10x1x36x8x128 ![0, 0, 10, 0, 0, 0] x slices_S12x10x11x36x8x128_S12x10x1x36x8x128_0_0_10_0_0_0) shapeCasts_S12x10x1x36x8x128_S12x10x36x8x128)
    slices_S12x10x36x8x128_S12x10x36x5x128_0_0_0_0_0) (broadcastInDim S12x10x36x5x128 ![] bcast_S_S12x10x36x5x128 (constantI S_ 32 2139095040#32)))
    (broadcastInDim S12x10x36x5x128 ![] bcast_S_S12x10x36x5x128 (constantI S_ 32 2139095040#32))

def codes (w : BitVec 32) : IVec S12x10x5x36x8x128 1 :=
  cmpi .ne (andi (extractStridedSlice S12x10x5x36x8x128 ![0, 0, 0, 0, 0, 0] x slices_S12x10x11x36x8x128_S12x10x5x36x8x128_0_0_0_0_0_0)
    (broadcastInDim S12x10x5x36x8x128 ![] bcast_S_S12x10x5x36x8x128 (constantI S_ 32 w)))
    (broadcastInDim S12x10x5x36x8x128 ![] bcast_S_S12x10x5x36x8x128 (constantI S_ 32 w))

def allCodes (w : BitVec 32) : IVec S_ 1 := Host.reduce IntOp.andi (codes x w) (constantI S_ 1 1#1) reducesTo_S12x10x5x36x8x128_S_d0_1_2_3_4_5 h_S_

theorem fn_eq : fn (F := Ideal) x = andi (andi (andi (andi (andi
      (Host.reduce IntOp.andi (sorted x) (constantI S_ 1 1#1) reducesTo_S12x10x4608_S_d0_1_2 h_S_)
      (Host.reduce IntOp.andi (scales x) (constantI S_ 1 1#1) reducesTo_S12x10x36x5x128_S_d0_1_2_3_4 h_S_))
      (allCodes x 127#32)) (allCodes x 32512#32)) (allCodes x 8323072#32)) (allCodes x 2130706432#32) := rfl

theorem starts_at (b : Fin 12) (h : Fin 10) (n : Fin 4608) : starts x (ix3 b h n) = stW (hw x b h) n := by
  show _ = x (ix6 b h 10 ⟨n.val / 128, by omega⟩ 6 ⟨n.val % 128, Nat.mod_lt _ (by decide)⟩)
  pointwise [starts]

theorem before_at (b : Fin 12) (h : Fin 10) (n : Fin 4608) :
    before x (ix3 b h n) = if h0 : n.val < 1 then 0#32 else stW (hw x b h) ⟨n.val - 1, by omega⟩ := by
  have : before x (ix3 b h n) = if h0 : n.val < 1 then 0#32 else starts x (ix3 b h ⟨n.val - 1, by omega⟩) := by
    pointwise [before]
  rw [this]
  by_cases h0 : n.val < 1
  · rw [dif_pos h0, dif_pos h0]
  · rw [dif_neg h0, dif_neg h0, starts_at]

theorem sorted_at (b : Fin 12) (h : Fin 10) (n : Fin 4608) :
    sorted x (ix3 b h n) = IntOp.ori (IntOp.cmpi .eq (starts x (ix3 b h n)) (before x (ix3 b h n))) (IntOp.cmpi .eq (starts x (ix3 b h n)) (BitVec.ofNat 32 n.val)) := by
  pointwise [sorted]

theorem scales_at (b : Fin 12) (h : Fin 10) (t : Fin 36) (d : Fin 5) (l : Fin 128) :
    scales x (ix5 b h t d l) = IntOp.cmpi .ne (IntOp.andi (x (ix6 b h 10 t ⟨d.val, by omega⟩ l)) 2139095040#32) 2139095040#32 := by
  pointwise [scales]

theorem codes_at (w : BitVec 32) (b : Fin 12) (h : Fin 10) (d : Fin 5) (t : Fin 36) (r : Fin 8) (l : Fin 128) :
    codes x w (ix6 b h d t r l) = IntOp.cmpi .ne (IntOp.andi (x (ix6 b h ⟨d.val, by omega⟩ t r l)) w) w := by
  pointwise [codes]

theorem ne_of_cmpi {a b : BitVec 32} (h : IntOp.cmpi .ne a b = 1#1) : a ≠ b := by
  intro e
  subst e
  have : BitVec.ofBool (a != a) = 1#1 := h
  simp at this

theorem eq_or_eq {a b c : BitVec 32} (h : IntOp.ori (IntOp.cmpi .eq a b) (IntOp.cmpi .eq a c) = 1#1) : a = b ∨ a = c := by
  by_cases e : a = b
  · exact .inl e
  · refine .inr ?_
    by_contra e'
    have : BitVec.ofBool (a == b) ||| BitVec.ofBool (a == c) = 1#1 := h
    rw [beq_false_of_ne e, beq_false_of_ne e'] at this
    exact absurd this (by decide)

theorem one_index (i j : S_.Idx) : i = j := funext fun a => a.elim0

instance : Subsingleton S_.Idx := ⟨one_index⟩

structure Parts : Prop where
  sorted : ∀ i, sorted x i = 1#1
  scales : ∀ i, scales x i = 1#1
  c0 : ∀ i, codes x 127#32 i = 1#1
  c1 : ∀ i, codes x 32512#32 i = 1#1
  c2 : ∀ i, codes x 8323072#32 i = 1#1
  c3 : ∀ i, codes x 2130706432#32 i = 1#1

theorem parts (hx : fn (F := Ideal) x = fun _ => 1#1) : Parts x := by
  rw [fn_eq] at hx
  have h := congrFun hx (Shape.Idx.first h_S_)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨Host.reduce_andi_all _ _ _ _ _ h1, Host.reduce_andi_all _ _ _ _ _ h2, Host.reduce_andi_all _ _ _ _ _ h3, Host.reduce_andi_all _ _ _ _ _ h4,
    Host.reduce_andi_all _ _ _ _ _ h5, Host.reduce_andi_all _ _ _ _ _ h6⟩

/-! ## Sorted tokens -/

/-- Bucket starts: each token's is that of the token before it, or the token itself. -/
def Steps (s : Fin 4608 → BitVec 32) : Prop :=
  ∀ n : Fin 4608, (s n).toNat = (if h0 : n.val < 1 then 0 else (s ⟨n.val - 1, by omega⟩).toNat) ∨ (s n).toNat = n.val

theorem Steps.le {s : Fin 4608 → BitVec 32} (hs : Steps s) : ∀ (k : ℕ) (hk : k < 4608), (s ⟨k, hk⟩).toNat ≤ k
  | 0, hk => by
    rcases hs ⟨0, hk⟩ with h | h
    · rw [dif_pos (Nat.zero_lt_one)] at h; exact h.le
    · exact h.le
  | k + 1, hk => by
    rcases hs ⟨k + 1, hk⟩ with h | h
    · rw [dif_neg (by show ¬ k + 1 < 1; omega)] at h
      have := hs.le k (by omega)
      exact h.le.trans (this.trans (by omega))
    · exact h.le

/-- A start is a token whose start is itself, or the first. -/
theorem Steps.same {s : Fin 4608 → BitVec 32} (hs : Steps s) (m : ℕ) (hm : m < 4608) : ∀ (k : ℕ) (hk : k < 4608), m ≤ k →
    ((s ⟨k, hk⟩).toNat ≤ m → (s ⟨k, hk⟩).toNat = (s ⟨m, hm⟩).toNat)
  | 0, hk, hmk => by
    intro _
    have : m = 0 := by omega
    subst this
    rfl
  | k + 1, hk, hmk => by
    intro h1
    by_cases e : m = k + 1
    · subst e; rfl
    · rcases hs ⟨k + 1, hk⟩ with h | h
      · rw [dif_neg (by show ¬ k + 1 < 1; omega)] at h
        rw [h]
        exact hs.same m hm k (by omega) (by omega) (h ▸ h1)
      · exfalso
        have : (s ⟨k + 1, hk⟩).toNat = k + 1 := h
        omega

theorem fine (hx : fn (F := Ideal) x = fun _ => 1#1) (b : Fin 12) (h : Fin 10) : Fine (hw x b h) := by
  have hp := parts x hx
  have hs : Steps (stW (hw x b h)) := by
    intro n
    have h1 := hp.sorted (ix3 b h n)
    rw [sorted_at, starts_at, before_at] at h1
    rcases eq_or_eq h1 with e | e
    · left
      rw [e]
      by_cases h0 : n.val < 1
      · rw [dif_pos h0, dif_pos h0]; rfl
      · rw [dif_neg h0, dif_neg h0]
    · right
      rw [e, BitVec.toNat_ofNat]
      have := n.isLt
      omega
  refine ⟨fun j n => ?_, fun n => hs.le n.val n.isLt, fun m n hmn => ⟨fun e => ?_, fun e => ?_⟩⟩
  · have hc : ∃ r : ℝ, code (hw x b h ⟨j.val / 32, by omega⟩ (tile n) ⟨j.val % 32 / 4, by omega⟩ (lane n)) (j.val % 4) = (r : EReal) := by
      have key : ∀ (w : BitVec 32) (i : ℕ) (hi : i < 4), (∀ i, codes x w i = 1#1) → w = 127#32 <<< (8 * i) → j.val % 4 = i →
          ∃ r : ℝ, code (hw x b h ⟨j.val / 32, by omega⟩ (tile n) ⟨j.val % 32 / 4, by omega⟩ (lane n)) (j.val % 4) = (r : EReal) := by
        intro w i hi hw' ew ej
        rw [ej]
        refine code_real _ _ (nan_of_mask _ i hi w ew (ne_of_cmpi ?_))
        rw [← hw' (ix6 b h ⟨j.val / 32, by omega⟩ (tile n) ⟨j.val % 32 / 4, by omega⟩ (lane n)), codes_at]
        rfl
      have h4 : j.val % 4 < 4 := Nat.mod_lt _ (by decide)
      have : j.val % 4 = 0 ∨ j.val % 4 = 1 ∨ j.val % 4 = 2 ∨ j.val % 4 = 3 := by omega
      rcases this with e | e | e | e
      · exact key _ 0 (by decide) hp.c0 (by decide) e
      · exact key _ 1 (by decide) hp.c1 (by decide) e
      · exact key _ 2 (by decide) hp.c2 (by decide) e
      · exact key _ 3 (by decide) hp.c3 (by decide) e
    have hf : ∃ r : ℝ, fl (hw x b h 10 (tile n) ⟨j.val / 32, by omega⟩ (lane n)) = (r : EReal) := by
      refine fl_real _ (exponent_of_mask _ (ne_of_cmpi ?_))
      rw [← hp.scales (ix5 b h (tile n) ⟨j.val / 32, by omega⟩ (lane n)), scales_at]
      rfl
    obtain ⟨r, hr⟩ := hc
    obtain ⟨r', hr'⟩ := hf
    exact ⟨r * r', by unfold qF; rw [hr, hr', EReal.coe_mul]⟩
  · rw [← e]
    exact hs.le m.val m.isLt
  · exact (BitVec.eq_of_toNat_eq (hs.same m.val m.isLt n.val n.isLt hmn.le e)).symm

end Cert.Pre_pre.Hand

end
-- ==== Proof.Algebraic.lean ====
/- The kernel and the reference compute the same function: both result arrays hold, at head `(b, h)`, feature `16 g + a`
   and token `128 t + l`, what `Cert.Head.attention` says. -/
module

public import proofs.«01_k».proof.Defs
public import proofs.«01_k».proof.Proof.KernelIdealFrame
public import proofs.«01_k».proof.Proof.Masks
public import proofs.«01_k».proof.Proof.RefValue
public import proofs.«01_k».proof.Proof.Pre

@[expose] public section

set_option maxRecDepth 16384

noncomputable section

namespace Cert.KernelIdeal.Hand

open Cert.KernelIdeal Cert.KernelIdeal.Gen Cert.Head
open Idealize.ShloMosaic Idealize.ShloMosaic.TcCoe Idealize.SL.Sem

/-- The kernel's result at an index. -/
theorem result_at (x : Vec Ideal S12x10x11x36x8x128 .i32) (b : Fin 12) (h : Fin 10) (hF : Fine (Cert.Pre_pre.Hand.hw x b h))
    (g : Fin 10) (t : Fin 36) (a : Fin 16) (l : Fin 128) :
    result x (ix6 b h g t a l) = attention (Cert.Pre_pre.Hand.hw x b h) (tok t l) ⟨16 * g.val + a.val, by omega⟩ :=
  oT_at (headWords x b h) hF t ⟨16 * g.val + a.val, by omega⟩ l

/-- Every index of the result is a head, a group of features, a tile, a feature and a lane. -/
theorem ix_eta (i : S12x10x10x36x16x128.Idx) : i = ix6 (i 0) (i 1) (i 2) (i 3) (i 4) (i 5) := by
  funext k
  match k with
  | ⟨0, _⟩ => rfl
  | ⟨1, _⟩ => rfl
  | ⟨2, _⟩ => rfl
  | ⟨3, _⟩ => rfl
  | ⟨4, _⟩ => rfl
  | ⟨5, _⟩ => rfl

end Cert.KernelIdeal.Hand

namespace Cert.Proof

open Idealize.ShloMosaic Idealize.ShloMosaic.TcCoe Idealize.SL.Sem

/-- From equal arguments, the reference's result array holds the kernel's result. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg) (c : Dev Cert.KernelIdeal.nD)
    (hp : Cert.Pre_pre.fn (F := Ideal) (m ((c.tc : Thread Cert.KernelIdeal.nD Cert.KernelIdeal.τ).loc Cert.KernelIdeal.main_arg0)) = fun _ => 1#1)
    (hm : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Gen.W21 m' g' c (Proc.devRef .tc Cert.ReferenceIdeal.main_v93) : FVec Ideal Cert.KernelIdeal.S12x10x10x36x16x128 .bf16)
      = Cert.KernelIdeal.Hand.result (F := Ideal) (m ((c.tc : Thread Cert.KernelIdeal.nD Cert.KernelIdeal.τ).loc Cert.KernelIdeal.main_arg0)) := by
  have hw : ∀ b h, Cert.ReferenceIdeal.Hand.hw m' c b h
      = Cert.Pre_pre.Hand.hw (m ((c.tc : Thread Cert.KernelIdeal.nD Cert.KernelIdeal.τ).loc Cert.KernelIdeal.main_arg0)) b h := by
    intro b h
    unfold Cert.ReferenceIdeal.Hand.hw
    rw [hm]
    rfl
  have hF := Cert.Pre_pre.Hand.fine _ hp
  refine funext fun (i : Cert.KernelIdeal.S12x10x10x36x16x128.Idx) => ?_
  obtain ⟨b, h, k, t, a, l, rfl⟩ : ∃ (b : Fin 12) (h : Fin 10) (k : Fin 10) (t : Fin 36) (a : Fin 16) (l : Fin 128), i = ix6 b h k t a l :=
    ⟨i 0, i 1, i 2, i 3, i 4, i 5, Cert.KernelIdeal.Hand.ix_eta i⟩
  have hFb : Cert.Head.Fine (Cert.ReferenceIdeal.Hand.hw m' c b h) := (hw b h).symm ▸ hF b h
  refine (Cert.ReferenceIdeal.Hand.out_val m' g' c b h hFb k t a l).trans ?_
  rw [hw b h]
  exact (Cert.KernelIdeal.Hand.result_at _ b h (hF b h) k t a l).symm

theorem algebraic : Cert.algebraic_KernelIdeal_ReferenceIdeal_pre_pre := by
  intro m g m' g' hp hm
  refine ⟨fun c => Cert.KernelIdeal.Hand.result (F := Ideal) (m ((c.tc : Thread Cert.KernelIdeal.nD Cert.KernelIdeal.τ).loc Cert.KernelIdeal.main_arg0)),
    Cert.KernelIdeal.Hand.run_value m g, ?_⟩
  refine θ_run_mono (Cert.ReferenceIdeal.Hand.run_value m' g') fun r hr c => ?_
  exact ⟨(hr c).1.trans (values m m' g' c (hp c) (hm c)), (hr c).2⟩

end Cert.Proof

end
-- ==== Proof.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Gen.Pre_pre
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The four named constants of the idealization, at the bits they replace. -/
theorem constants : Cert.preserves_Kernel_KernelIdeal :=
  ⟨IdealRules.named_const.statement Cert.KernelIdeal.κ "self_mask" .f32 0xC80CE360#32 (((-100000) * (Real.log 2)⁻¹ : ℝ) : EReal) rfl,
   IdealRules.named_const.statement Cert.KernelIdeal.κ "other_mask" .f32 0xCEABFB8F#32 (((-1000000000) * (Real.log 2)⁻¹ : ℝ) : EReal) rfl,
   IdealRules.named_const.statement Cert.KernelIdeal.κ "inv_d" .f32 0x3BCCCCCD#32 ((1 / 160 : ℝ) : EReal) rfl,
   IdealRules.named_const.statement Cert.KernelIdeal.κ "key_scale" .f32 0x3DE995B3#32 (((Real.sqrt 160)⁻¹ * (Real.log 2)⁻¹ : ℝ) : EReal) rfl⟩

theorem claim : Cert.Claim :=
  ⟨Cert.Kernel.Gen.facts, Cert.KernelIdeal.Gen.facts, Cert.ReferenceIdeal.Gen.facts, Cert.Pre_pre.Gen.facts,
   fun m ρ _ => Cert.Kernel.Hand.frame m ρ, fun m ρ _ => Cert.KernelIdeal.Hand.frame m ρ, fun m ρ _ => Cert.KernelIdeal.Hand.frame m ρ,
   fun m ρ _ => Cert.ReferenceIdeal.Gen.frame m ρ, fun m ρ _ => Cert.ReferenceIdeal.Gen.frame m ρ, constants, algebraic⟩

end Cert.Proof

end
